-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelCos (m : (ℓ : Loc Cert.KernelCos.nD Cert.KernelCos.τ Cert.KernelCos.sig) → Buf (Elt Bits) ℓ) : Prop :=
  True

def Pre_KernelCosIdeal (m : (ℓ : Loc Cert.KernelCosIdeal.nD Cert.KernelCosIdeal.τ Cert.KernelCosIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelCos [hKernelCos : Cert.KernelCos.Facts] : Prop :=
  ∀ (m : (ℓ : Loc Cert.KernelCos.nD Cert.KernelCos.τ Cert.KernelCos.sig) → Buf (Elt Bits) ℓ) (g : Dev Cert.KernelCos.nD → PrngReg), Pre_KernelCos m →
    θ_run (Cert.KernelCos.defs (F := Bits)) (onTc (τ := Cert.KernelCos.τ) (Cert.KernelCos.main (F := Bits))) ⟨m, fun _ => 0, g⟩ (fun r => (∀ c : Dev Cert.KernelCos.nD,
      r.2.mem ((c.tc : Thread Cert.KernelCos.nD Cert.KernelCos.τ).loc Cert.KernelCos.main_arg0) = m ((c.tc : Thread Cert.KernelCos.nD Cert.KernelCos.τ).loc Cert.KernelCos.main_arg0))
      ∧ r.2.sem = fun _ => 0)

def quiescent_KernelCosIdeal [hKernelCosIdeal : Cert.KernelCosIdeal.Facts] : Prop :=
  ∀ (m : (ℓ : Loc Cert.KernelCosIdeal.nD Cert.KernelCosIdeal.τ Cert.KernelCosIdeal.sig) → Buf (Elt Ideal) ℓ) (g : Dev Cert.KernelCosIdeal.nD → PrngReg), Pre_KernelCosIdeal m →
    θ_run (Cert.KernelCosIdeal.defs (F := Ideal)) (onTc (τ := Cert.KernelCosIdeal.τ) (Cert.KernelCosIdeal.main (F := Ideal))) ⟨m, fun _ => 0, g⟩ (fun r => (∀ c : Dev Cert.KernelCosIdeal.nD,
      r.2.mem ((c.tc : Thread Cert.KernelCosIdeal.nD Cert.KernelCosIdeal.τ).loc Cert.KernelCosIdeal.main_arg0) = m ((c.tc : Thread Cert.KernelCosIdeal.nD Cert.KernelCosIdeal.τ).loc Cert.KernelCosIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def holds_KernelIdeal_within [hKernelIdeal : Cert.KernelIdeal.Facts] [hPost_within : Cert.Post_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_within.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def preserves_KernelCos_KernelCosIdeal : Prop :=
  IdealRules.named_const.Statement Cert.KernelCosIdeal.κ "pi" .f32 0x40490FDB#32 ((Real.pi : ℝ) : EReal)
  ∧ IdealRules.named_const.Statement Cert.KernelCosIdeal.κ "half_pi" .f32 0x3FC90FDB#32 (((1 / 2) * Real.pi : ℝ) : EReal)

def algebraic_KernelCosIdeal_ReferenceIdeal [hKernelCosIdeal : Cert.KernelCosIdeal.Facts] [hReferenceIdeal : Cert.ReferenceIdeal.Facts] : Prop :=
  ∀ (m : (ℓ : Loc Cert.KernelCosIdeal.nD Cert.KernelCosIdeal.τ Cert.KernelCosIdeal.sig) → Buf (Elt Ideal) ℓ) (g : Dev Cert.KernelCosIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelCosIdeal m →
    (∀ c : Dev Cert.KernelCosIdeal.nD,
      m' ((c.tc : Thread Cert.ReferenceIdeal.nD Cert.ReferenceIdeal.τ).loc Cert.ReferenceIdeal.main_arg0) = m ((c.tc : Thread Cert.KernelCosIdeal.nD Cert.KernelCosIdeal.τ).loc Cert.KernelCosIdeal.main_arg0)) →
    ∃ (v0 : (c : Dev Cert.KernelCosIdeal.nD) → Buf (Elt Ideal) ((c.tc : Thread Cert.KernelCosIdeal.nD Cert.KernelCosIdeal.τ).loc Cert.KernelCosIdeal.main_v0)),
      θ_run (Cert.KernelCosIdeal.defs (F := Ideal)) (onTc (τ := Cert.KernelCosIdeal.τ) (Cert.KernelCosIdeal.main (F := Ideal))) ⟨m, fun _ => 0, g⟩ (fun r => ∀ c : Dev Cert.KernelCosIdeal.nD,
          r.2.mem ((c.tc : Thread Cert.KernelCosIdeal.nD Cert.KernelCosIdeal.τ).loc Cert.KernelCosIdeal.main_v0) = v0 c
          ∧ r.2.mem ((c.tc : Thread Cert.KernelCosIdeal.nD Cert.KernelCosIdeal.τ).loc Cert.KernelCosIdeal.main_arg0) = m ((c.tc : Thread Cert.KernelCosIdeal.nD Cert.KernelCosIdeal.τ).loc Cert.KernelCosIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_on_copied [hKernelIdeal : Cert.KernelIdeal.Facts] [hReferenceIdeal : Cert.ReferenceIdeal.Facts] [hOn_copied : Cert.On_copied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![65536, 384]⟩ : Shape).Idx, (Cert.On_copied.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![65536, 384]⟩ : Shape).Idx, (Cert.On_copied.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hKernelCos : Cert.KernelCos.Facts) (hKernelCosIdeal : Cert.KernelCosIdeal.Facts) (hReferenceIdeal : Cert.ReferenceIdeal.Facts) (hPost_within : Cert.Post_within.Facts) (hOn_copied : Cert.On_copied.Facts),
    quiescent_Kernel (hKernel := hKernel)
    ∧ quiescent_KernelIdeal (hKernelIdeal := hKernelIdeal)
    ∧ quiescent_KernelCos (hKernelCos := hKernelCos)
    ∧ quiescent_KernelCosIdeal (hKernelCosIdeal := hKernelCosIdeal)
    ∧ quiescent_ReferenceIdeal (hReferenceIdeal := hReferenceIdeal)
    ∧ preserves_Kernel_KernelIdeal
    ∧ holds_KernelIdeal_within (hKernelIdeal := hKernelIdeal) (hPost_within := hPost_within)
    ∧ preserves_KernelCos_KernelCosIdeal
    ∧ algebraic_KernelCosIdeal_ReferenceIdeal (hKernelCosIdeal := hKernelCosIdeal) (hReferenceIdeal := hReferenceIdeal)
    ∧ algebraic_KernelIdeal_ReferenceIdeal_on_copied (hKernelIdeal := hKernelIdeal) (hReferenceIdeal := hReferenceIdeal) (hOn_copied := hOn_copied)
-- ==== On_copied.lean ====
abbrev S65536x256 : Shape := ⟨2, ![65536, 256]⟩
abbrev S65536x384 : Shape := ⟨2, ![65536, 384]⟩
abbrev S_ : Shape := ⟨0, ![]⟩

class Facts : Prop where
  bcast_S_S65536x384 : S_.BroadcastsInDim S65536x384 (![] : Fin 0 → Fin S65536x384.rank)

variable [Facts]

def fn {F : FTy → Type} [FloatOps F] (main_arg0 : FVec F S65536x256 .f32) : IVec S65536x384 1 :=
  let main_v0 : IVec S65536x384 32 := iotaInDim S65536x384 32 1
  let main_c : IVec S_ 32 := constantI S_ 32 256#32
  let main_v1 : IVec S65536x384 32 := broadcastInDim S65536x384 ![] bcast_S_S65536x384 main_c
  let main_v2 : IVec S65536x384 1 := cmpi .sge main_v0 main_v1
  main_v2
-- ==== Post_within.lean ====
abbrev S65536x256 : Shape := ⟨2, ![65536, 256]⟩
abbrev S65536x384 : Shape := ⟨2, ![65536, 384]⟩
abbrev S65536x128 : Shape := ⟨2, ![65536, 128]⟩
abbrev S_ : Shape := ⟨0, ![]⟩

class Facts : Prop where
  slices_S65536x256_S65536x128_0_0 : S65536x256.Slices ![0, 0] S65536x128
  bcast_S_S65536x128 : S_.BroadcastsInDim S65536x128 (![] : Fin 0 → Fin S65536x128.rank)
  slicesBy_S65536x384_S65536x128_0s1_0s2 : S65536x384.SlicesBy (![0, 0] : Fin 2 → Nat) ![1, 2] S65536x128
  slicesBy_S65536x384_S65536x128_0s1_1s2 : S65536x384.SlicesBy (![0, 1] : Fin 2 → Nat) ![1, 2] S65536x128
  slices_S65536x384_S65536x128_0_256 : S65536x384.Slices ![0, 256] S65536x128
  slices_S65536x256_S65536x128_0_128 : S65536x256.Slices ![0, 128] S65536x128
  concatenates_S65536x128_S65536x128_S65536x128_S65536x384_d1 : Shape.Concatenates [S65536x128, S65536x128, S65536x128] S65536x384 1

variable [Facts]

def fn_part1 {F : FTy → Type} [FloatOps F] (main_arg0 : FVec F S65536x256 .f32) (main_arg1 : FVec F S65536x384 .f32) (main_v7 : IVec S65536x128 1) (main_v13 : IVec S65536x128 1) (main_v19 : IVec S65536x128 1) : IVec S65536x384 1 :=
  let main_v20 : FVec F S65536x128 .f32 := (extractStridedSlice S65536x128 ![0, 256] · slices_S65536x384_S65536x128_0_256) main_arg1
  let main_v21 : FVec F S65536x128 .f32 := (extractStridedSlice S65536x128 ![0, 128] · slices_S65536x256_S65536x128_0_128) main_arg0
  let main_v22 : IVec S65536x128 1 := cmpf .oeq main_v20 main_v21
  let main_v23 : IVec S65536x128 1 := ori main_v7 main_v13
  let main_v24 : IVec S65536x128 1 := ori main_v7 main_v19
  let main_v25 : IVec S65536x384 1 := concatenate S65536x384 1 [⟨S65536x128, main_v23⟩, ⟨S65536x128, main_v24⟩, ⟨S65536x128, main_v22⟩] concatenates_S65536x128_S65536x128_S65536x128_S65536x384_d1
  main_v25

def fn {F : FTy → Type} [FloatOps F] (main_arg0 : FVec F S65536x256 .f32) (main_arg1 : FVec F S65536x384 .f32) : IVec S65536x384 1 :=
  let main_v0 : FVec F S65536x128 .f32 := (extractStridedSlice S65536x128 ![0, 0] · slices_S65536x256_S65536x128_0_0) main_arg0
  let main_cst : FVec F S_ .f32 := constant S_ .f32 0xBF800000#32
  let main_v1 : FVec F S_ .f32 := Host.acos main_cst
  let main_v2 : FVec F S65536x128 .f32 := broadcastInDim S65536x128 ![] bcast_S_S65536x128 main_v1
  let main_v3 : FVec F S65536x128 .f32 := addf main_v0 main_v2
  let main_v4 : FVec F S65536x128 .f32 := (extractStridedSlice S65536x128 ![0, 0] · slices_S65536x256_S65536x128_0_0) main_arg0
  let main_v5 : FVec F S65536x128 .f32 := Host.absf main_v4
  let main_cst_0 : FVec F S_ .f32 := constant S_ .f32 0x47800000#32
  let main_v6 : FVec F S65536x128 .f32 := broadcastInDim S65536x128 ![] bcast_S_S65536x128 main_cst_0
  let main_v7 : IVec S65536x128 1 := cmpf .ogt main_v5 main_v6
  let main_v8 : FVec F S65536x128 .f32 := (Host.slice S65536x128 ![0, 0] ![1, 2] · slicesBy_S65536x384_S65536x128_0s1_0s2) main_arg1
  let main_v9 : FVec F S65536x128 .f32 := Host.cos main_v3
  let main_v10 : FVec F S65536x128 .f32 := subf main_v8 main_v9
  let main_v11 : FVec F S65536x128 .f32 := Host.absf main_v10
  let main_cst_1 : FVec F S_ .f32 := constant S_ .f32 0x360637BD#32
  let main_v12 : FVec F S65536x128 .f32 := broadcastInDim S65536x128 ![] bcast_S_S65536x128 main_cst_1
  let main_v13 : IVec S65536x128 1 := cmpf .ole main_v11 main_v12
  let main_v14 : FVec F S65536x128 .f32 := (Host.slice S65536x128 ![0, 1] ![1, 2] · slicesBy_S65536x384_S65536x128_0s1_1s2) main_arg1
  let main_v15 : FVec F S65536x128 .f32 := Host.sin main_v3
  let main_v16 : FVec F S65536x128 .f32 := subf main_v14 main_v15
  let main_v17 : FVec F S65536x128 .f32 := Host.absf main_v16
  let main_cst_2 : FVec F S_ .f32 := constant S_ .f32 0x360637BD#32
  let main_v18 : FVec F S65536x128 .f32 := broadcastInDim S65536x128 ![] bcast_S_S65536x128 main_cst_2
  let main_v19 : IVec S65536x128 1 := cmpf .ole main_v17 main_v18
  fn_part1 (F := F) main_arg0 main_arg1 main_v7 main_v13 main_v19
-- ==== Kernel.lean ====
abbrev S65536x256 : Shape := ⟨2, ![65536, 256]⟩
abbrev S128x256 : Shape := ⟨2, ![128, 256]⟩
abbrev S65536x384 : Shape := ⟨2, ![65536, 384]⟩
abbrev S4096x256 : Shape := ⟨2, ![4096, 256]⟩
abbrev S4096x384 : Shape := ⟨2, ![4096, 384]⟩
abbrev S4096x128 : Shape := ⟨2, ![4096, 128]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S128x256, .f32⟩
  | .hbm, ⟨2, _⟩ => ⟨S65536x384, .f32⟩
  | .local _ .vmem, ⟨0, _⟩ => ⟨S4096x256, .f32⟩
  | .local _ .vmem, ⟨1, _⟩ => ⟨S4096x256, .f32⟩
  | .local _ .vmem, ⟨2, _⟩ => ⟨S128x256, .f32⟩
  | .local _ .vmem, ⟨3, _⟩ => ⟨S4096x384, .f32⟩
  | .local _ .vmem, ⟨4, _⟩ => ⟨S4096x384, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelCos.lean ====
abbrev S65536x256 : Shape := ⟨2, ![65536, 256]⟩
abbrev S128x256 : Shape := ⟨2, ![128, 256]⟩
abbrev S65536x384 : Shape := ⟨2, ![65536, 384]⟩
abbrev S1024x256 : Shape := ⟨2, ![1024, 256]⟩
abbrev S1024x384 : Shape := ⟨2, ![1024, 384]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S128x256, .f32⟩
  | .hbm, ⟨2, _⟩ => ⟨S65536x384, .f32⟩
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S1024x384, .f32⟩
  | .local _ .vmem, ⟨4, _⟩ => ⟨S1024x384, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelCosIdeal.lean ====
variable {F : FTy → Type} [FloatOps F] [Named F]
def κ : String → Option EReal := fun
  | "half_pi" => some (((1 / 2) * Real.pi : ℝ) : EReal)
  | "pi" => some ((Real.pi : ℝ) : EReal)
  | _ => none
-- ==== ReferenceIdeal.lean ====
abbrev S65536x256 : Shape := ⟨2, ![65536, 256]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S65536x128 : Shape := ⟨2, ![65536, 128]⟩
abbrev S65536x384 : Shape := ⟨2, ![65536, 384]⟩

abbrev nBuf : Space → Nat
  | .hbm => 96
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S128, .i32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S1, .i32⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S1x1, .i32⟩
  | .hbm, ⟨25, _⟩ => ⟨S128x1, .i32⟩
  | .hbm, ⟨26, _⟩ => ⟨S128x1, .i1⟩
  | .hbm, ⟨27, _⟩ => ⟨S128x1, .i1⟩
  | .hbm, ⟨28, _⟩ => ⟨S_, .i1⟩
  | .hbm, ⟨29, _⟩ => ⟨S128, .i1⟩
  | .hbm, ⟨30, _⟩ => ⟨S65536x128, .f32⟩
  | .hbm, ⟨31, _⟩ => ⟨S65536x128, .i1⟩
  | .hbm, ⟨32, _⟩ => ⟨S_, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S_, .f32⟩
  | .hbm, ⟨42, _⟩ => ⟨S65536x384, .f32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S65536x384, .f32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S128x1, .i32⟩
  | .hbm, ⟨63, _⟩ => ⟨S65536x384, .f32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S1, .i32⟩
  | .hbm, ⟨73, _⟩ => ⟨S_, .i32⟩
  | .hbm, ⟨74, _⟩ => ⟨S128x1, .i32⟩
  | .hbm, ⟨75, _⟩ => ⟨S128x1, .i1⟩
  | .hbm, ⟨76, _⟩ => ⟨S1x1, .i32⟩
  | .hbm, ⟨77, _⟩ => ⟨S128x1, .i32⟩
  | .hbm, ⟨78, _⟩ => ⟨S128x1, .i1⟩
  | .hbm, ⟨79, _⟩ => ⟨S128x1, .i1⟩
  | .hbm, ⟨80, _⟩ => ⟨S_, .i1⟩
  | .hbm, ⟨81, _⟩ => ⟨S128, .i1⟩
  | .hbm, ⟨82, _⟩ => ⟨S65536x128, .f32⟩
  | .hbm, ⟨83, _⟩ => ⟨S65536x128, .i1⟩
  | .hbm, ⟨84, _⟩ => ⟨S_, .f32⟩
  | .hbm, ⟨85, _⟩ => ⟨S65536x128, .f32⟩
  | .hbm, ⟨86, _⟩ => ⟨S65536x128, .f32⟩
  | .hbm, ⟨87, _⟩ => ⟨S_, .i32⟩
  | .hbm, ⟨88, _⟩ => ⟨S128, .i32⟩
  | .hbm, ⟨89, _⟩ => ⟨S128, .i1⟩
  | .hbm, ⟨90, _⟩ => ⟨S_, .i32⟩
  | .hbm, ⟨91, _⟩ => ⟨S128, .i32⟩
  | .hbm, ⟨92, _⟩ => ⟨S128, .i32⟩
  | .hbm, ⟨93, _⟩ => ⟨S128, .i32⟩
  | .hbm, ⟨94, _⟩ => ⟨S128x1, .i32⟩
  | .hbm, ⟨95, _⟩ => ⟨S65536x384, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_4 : Ref sig .tc := ⟨.hbm, 41, rfl⟩
abbrev main_v12 : Ref sig .tc := ⟨.hbm, 42, rfl⟩
abbrev main_c_5 : Ref sig .tc := ⟨.hbm, 43, rfl⟩
abbrev main_v13 : Ref sig .tc := ⟨.hbm, 44, rfl⟩
abbrev main_v14 : Ref sig .tc := ⟨.hbm, 45, rfl⟩
abbrev main_c_6 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_7 : Ref sig .tc := ⟨.hbm, 52, rfl⟩
abbrev main_v20 : Ref sig .tc := ⟨.hbm, 53, rfl⟩
abbrev main_v21 : Ref sig .tc := ⟨.hbm, 54, rfl⟩
abbrev main_c_8 : Ref sig .tc := ⟨.hbm, 55, rfl⟩
abbrev main_v22 : Ref sig .tc := ⟨.hbm, 56, rfl⟩
abbrev main_v23 : Ref sig .tc := ⟨.hbm, 57, rfl⟩
abbrev main_c_9 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v29 : Ref sig .tc := ⟨.hbm, 86, rfl⟩
abbrev main_c_10 : Ref sig .tc := ⟨.hbm, 87, rfl⟩
abbrev main_v30 : Ref sig .tc := ⟨.hbm, 88, rfl⟩
abbrev main_v31 : Ref sig .tc := ⟨.hbm, 89, rfl⟩
abbrev main_c_11 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩

abbrev nD : Nat := 1
abbrev τ : Topo := Topo.v7x

variable {F : FTy → Type} [FloatOps F]
-- ==== Proof.Consts.lean ====
/- The float words of the two kernels and of the two predicates, as the exact reals they stand for, and the lane
   parity both kernels compute in integer words. -/
module

public import Idealize.ShloMosaic.PureOps.Ideal
public import Idealize.ShloMosaic.Lib.ValueIdx

@[expose] public section

noncomputable section

namespace Cert.Proof.Consts

open Idealize.ShloMosaic

/-- The word of `1.0` is one. -/
theorem one : Ideal.ofBits .f32 0x3F800000#32 = ((1 : ℝ) : EReal) := by
  simp [Ideal.ofBits, Ideal.ieee, -EReal.coe_mul, -EReal.coe_one]; norm_num

/-- The word of `-1.0` is minus one. -/
theorem neg_one : Ideal.ofBits .f32 0xBF800000#32 = ((-1 : ℝ) : EReal) := by
  simp [Ideal.ofBits, Ideal.ieee, -EReal.coe_mul]; norm_num

/-- The word of `0.0` is zero. -/
theorem zero : Ideal.ofBits .f32 0x00000000#32 = (0 : EReal) := by
  simp [Ideal.ofBits, Ideal.ieee, -EReal.coe_mul]

/-- The word of `65536.0`. -/
theorem large : Ideal.ofBits .f32 0x47800000#32 = ((65536 : ℝ) : EReal) := by
  simp [Ideal.ofBits, Ideal.ieee, -EReal.coe_mul]; norm_num

/-- The word nearest `2e-6`. -/
theorem error : Ideal.ofBits .f32 0x360637BD#32 = ((8796093 / 4398046511104 : ℝ) : EReal) := by
  simp [Ideal.ofBits, Ideal.ieee, -EReal.coe_mul]; norm_num

/-- The kernel's `π`. -/
theorem pi32 : Ideal.ofBits .f32 0x40490FDB#32 = ((13176795 / 4194304 : ℝ) : EReal) := by
  simp [Ideal.ofBits, Ideal.ieee, -EReal.coe_mul]; norm_num

/-- The kernel's `π/2`. -/
theorem half_pi32 : Ideal.ofBits .f32 0x3FC90FDB#32 = ((13176795 / 8388608 : ℝ) : EReal) := by
  simp [Ideal.ofBits, Ideal.ieee, -EReal.coe_mul]; norm_num

/-- The kernel's `1/(2π)`. -/
theorem inv_two_pi : Ideal.ofBits .f32 0x3E22F983#32 = ((10680707 / 67108864 : ℝ) : EReal) := by
  simp [Ideal.ofBits, Ideal.ieee, -EReal.coe_mul]; norm_num

/-- The leading part of the kernel's `2π`. -/
theorem two_pi_hi : Ideal.ofBits .f32 0x40C90000#32 = ((201 / 32 : ℝ) : EReal) := by
  simp [Ideal.ofBits, Ideal.ieee, -EReal.coe_mul]; norm_num

/-- The trailing part of the kernel's `2π`. -/
theorem two_pi_lo : Ideal.ofBits .f32 0x3AFDAA22#32 = ((8312081 / 4294967296 : ℝ) : EReal) := by
  simp [Ideal.ofBits, Ideal.ieee, -EReal.coe_mul]; norm_num

/-- The polynomial's coefficient of `u⁰`. -/
theorem c0 : Ideal.ofBits .f32 0x3F7FFFF6#32 = ((8388603 / 8388608 : ℝ) : EReal) := by
  simp [Ideal.ofBits, Ideal.ieee, -EReal.coe_mul]; norm_num

/-- The polynomial's coefficient of `u¹`. -/
theorem c1 : Ideal.ofBits .f32 0xBEFFFF62#32 = ((-(8388529 / 16777216) : ℝ) : EReal) := by
  simp [Ideal.ofBits, Ideal.ieee, -EReal.coe_mul]; norm_num

/-- The polynomial's coefficient of `u²`. -/
theorem c2 : Ideal.ofBits .f32 0x3D2AA477#32 = ((11183223 / 268435456 : ℝ) : EReal) := by
  simp [Ideal.ofBits, Ideal.ieee, -EReal.coe_mul]; norm_num

/-- The polynomial's coefficient of `u³`. -/
theorem c3 : Ideal.ofBits .f32 0xBAB5B06E#32 = ((-(5953591 / 4294967296) : ℝ) : EReal) := by
  simp [Ideal.ofBits, Ideal.ieee, -EReal.coe_mul]; norm_num

/-- The polynomial's coefficient of `u⁴`. -/
theorem c4 : Ideal.ofBits .f32 0x37CB5713#32 = ((13326099 / 549755813888 : ℝ) : EReal) := by
  simp [Ideal.ofBits, Ideal.ieee, -EReal.coe_mul]; norm_num

/-- The polynomial's coefficient of `u⁵`. -/
theorem c5 : Ideal.ofBits .f32 0xB46DA452#32 = ((-(7787049 / 35184372088832) : ℝ) : EReal) := by
  simp [Ideal.ofBits, Ideal.ieee, -EReal.coe_mul]; norm_num

/-- The lane parity in words: the remainder of the lane number by two, moved to the divisor's sign, compared with
    zero, is the bit of "the lane is even". -/
theorem lane_even (j : Nat) (h : j < 256) :
    IntOp.cmpi .eq (Scalar.select (IntOp.andi (IntOp.xori
        (IntOp.cmpi .slt (IntOp.remsi .vector (BitVec.ofNat 32 j) 2#32) 0#32) 0#1)
        (IntOp.cmpi .ne (IntOp.remsi .vector (BitVec.ofNat 32 j) 2#32) 0#32))
        (IntOp.addi (IntOp.remsi .vector (BitVec.ofNat 32 j) 2#32) 2#32)
        (IntOp.remsi .vector (BitVec.ofNat 32 j) 2#32)) 0#32 = if j % 2 = 0 then 1#1 else 0#1 := by
  have e : IntOp.remsi .vector (BitVec.ofNat 32 j) 2#32 = BitVec.ofNat 32 (j % 2) := by
    have key : ∀ j < 256, (BitVec.ofNat 32 j).srem 2#32 = BitVec.ofNat 32 (j % 2) := by decide +kernel
    unfold IntOp.remsi
    rw [if_neg (by simp [IntOp.SDivCorner]), key j h]
  rw [e]
  rcases Nat.mod_two_eq_zero_or_one j with h0 | h0 <;> rw [h0] <;> decide

end Cert.Proof.Consts

end
-- ==== Proof.Table.lean ====
/- The spreading table of the two kernels: entry `(k, j)` of the 128 × 256 constant is one where `j / 2 = k` and
   zero elsewhere. The programs hold it as 256 tiles of 128 words, so it is read tile by tile. -/
module

public import proofs.«01_k».proof.KernelIdeal
public import proofs.«01_k».proof.KernelCosIdeal
public import proofs.«01_k».proof.Proof.Consts
public import Mathlib.Tactic.IntervalCases

@[expose] public section

noncomputable section

open Idealize.ShloMosaic Idealize.ShloMosaic.ValueIdx

namespace Cert.Proof.Table

/-- A table of 128 arms, filled from a function. -/
abbrev arms (f : Nat → BitVec 32) (r : Nat) : BitVec 32 := match r with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- Below 128 the table is the function. -/
theorem arms_eq (f : Nat → BitVec 32) (r : Nat) (h : r < 128) : arms f r = f r := by
  interval_cases r <;> rfl

/-- Word `r` of tile `n`: the tile is half a row, of row `n / 2`. -/
def ent (n r : Nat) : BitVec 32 := if (r + 128 * (n % 2)) / 2 = n / 2 then 0x3F800000#32 else 0x00000000#32

/-- A tile read at its place. -/
theorem tile (n i : Nat) : arms (ent n) (i % 128) = ent n (i % 128) := arms_eq _ _ (Nat.mod_lt _ (by decide))

end Cert.Proof.Table

namespace Cert.Proof.Table.KernelCosIdeal

open Cert.KernelCosIdeal Cert.Proof.Table

set_option maxRecDepth 10000 in
/-- The first half of the first version's table, tile by tile. -/
theorem half0 (i : Nat) : lit0t1_0 i = ent (i / 128 % 128) (i % 128) := by
  have h : i / 128 % 128 < 128 := Nat.mod_lt _ (by decide)
  unfold lit0t1_0
  generalize i / 128 % 128 = r at h ⊢
  interval_cases r
  exacts [tile 0 i, tile 1 i, tile 2 i, tile 3 i, tile 4 i, tile 5 i, tile 6 i, tile 7 i,
      tile 8 i, tile 9 i, tile 10 i, tile 11 i, tile 12 i, tile 13 i, tile 14 i, tile 15 i,
      tile 16 i, tile 17 i, tile 18 i, tile 19 i, tile 20 i, tile 21 i, tile 22 i, tile 23 i,
      tile 24 i, tile 25 i, tile 26 i, tile 27 i, tile 28 i, tile 29 i, tile 30 i, tile 31 i,
      tile 32 i, tile 33 i, tile 34 i, tile 35 i, tile 36 i, tile 37 i, tile 38 i, tile 39 i,
      tile 40 i, tile 41 i, tile 42 i, tile 43 i, tile 44 i, tile 45 i, tile 46 i, tile 47 i,
      tile 48 i, tile 49 i, tile 50 i, tile 51 i, tile 52 i, tile 53 i, tile 54 i, tile 55 i,
      tile 56 i, tile 57 i, tile 58 i, tile 59 i, tile 60 i, tile 61 i, tile 62 i, tile 63 i,
      tile 64 i, tile 65 i, tile 66 i, tile 67 i, tile 68 i, tile 69 i, tile 70 i, tile 71 i,
      tile 72 i, tile 73 i, tile 74 i, tile 75 i, tile 76 i, tile 77 i, tile 78 i, tile 79 i,
      tile 80 i, tile 81 i, tile 82 i, tile 83 i, tile 84 i, tile 85 i, tile 86 i, tile 87 i,
      tile 88 i, tile 89 i, tile 90 i, tile 91 i, tile 92 i, tile 93 i, tile 94 i, tile 95 i,
      tile 96 i, tile 97 i, tile 98 i, tile 99 i, tile 100 i, tile 101 i, tile 102 i, tile 103 i,
      tile 104 i, tile 105 i, tile 106 i, tile 107 i, tile 108 i, tile 109 i, tile 110 i, tile 111 i,
      tile 112 i, tile 113 i, tile 114 i, tile 115 i, tile 116 i, tile 117 i, tile 118 i, tile 119 i,
      tile 120 i, tile 121 i, tile 122 i, tile 123 i, tile 124 i, tile 125 i, tile 126 i, tile 127 i]

set_option maxRecDepth 10000 in
/-- The second half, tile by tile. -/
theorem half1 (i : Nat) : lit0t1_1 i = ent (128 + i / 128 % 128) (i % 128) := by
  have h : i / 128 % 128 < 128 := Nat.mod_lt _ (by decide)
  unfold lit0t1_1
  generalize i / 128 % 128 = r at h ⊢
  interval_cases r
  exacts [tile 128 i, tile 129 i, tile 130 i, tile 131 i, tile 132 i, tile 133 i, tile 134 i, tile 135 i,
      tile 136 i, tile 137 i, tile 138 i, tile 139 i, tile 140 i, tile 141 i, tile 142 i, tile 143 i,
      tile 144 i, tile 145 i, tile 146 i, tile 147 i, tile 148 i, tile 149 i, tile 150 i, tile 151 i,
      tile 152 i, tile 153 i, tile 154 i, tile 155 i, tile 156 i, tile 157 i, tile 158 i, tile 159 i,
      tile 160 i, tile 161 i, tile 162 i, tile 163 i, tile 164 i, tile 165 i, tile 166 i, tile 167 i,
      tile 168 i, tile 169 i, tile 170 i, tile 171 i, tile 172 i, tile 173 i, tile 174 i, tile 175 i,
      tile 176 i, tile 177 i, tile 178 i, tile 179 i, tile 180 i, tile 181 i, tile 182 i, tile 183 i,
      tile 184 i, tile 185 i, tile 186 i, tile 187 i, tile 188 i, tile 189 i, tile 190 i, tile 191 i,
      tile 192 i, tile 193 i, tile 194 i, tile 195 i, tile 196 i, tile 197 i, tile 198 i, tile 199 i,
      tile 200 i, tile 201 i, tile 202 i, tile 203 i, tile 204 i, tile 205 i, tile 206 i, tile 207 i,
      tile 208 i, tile 209 i, tile 210 i, tile 211 i, tile 212 i, tile 213 i, tile 214 i, tile 215 i,
      tile 216 i, tile 217 i, tile 218 i, tile 219 i, tile 220 i, tile 221 i, tile 222 i, tile 223 i,
      tile 224 i, tile 225 i, tile 226 i, tile 227 i, tile 228 i, tile 229 i, tile 230 i, tile 231 i,
      tile 232 i, tile 233 i, tile 234 i, tile 235 i, tile 236 i, tile 237 i, tile 238 i, tile 239 i,
      tile 240 i, tile 241 i, tile 242 i, tile 243 i, tile 244 i, tile 245 i, tile 246 i, tile 247 i,
      tile 248 i, tile 249 i, tile 250 i, tile 251 i, tile 252 i, tile 253 i, tile 254 i, tile 255 i]

/-- The word at row `k` and column `j` of the first version's table: the word of one where `j / 2 = k`, of zero elsewhere. -/
theorem word (i k j : Nat) (hi : i = 256 * k + j) (hk : k < 128) (hj : j < 256) :
    lit0t i = if j / 2 = k then 0x3F800000#32 else 0x00000000#32 := by
  have h2 : i / 16384 < 2 := by omega
  have key : lit0t i = ent (i / 128) (i % 128) := by
    rcases Nat.lt_or_ge i 16384 with hlt | hge
    · have e : i / 16384 = 0 := by omega
      have : lit0t i = lit0t1_0 i := by unfold lit0t; rw [e]; rfl
      rw [this, half0, show i / 128 % 128 = i / 128 by omega]
    · have e : i / 16384 = 1 := by omega
      have : lit0t i = lit0t1_1 i := by unfold lit0t; rw [e]; rfl
      rw [this, half1, show 128 + i / 128 % 128 = i / 128 by omega]
  rw [key]
  unfold ent
  have e : (i % 128 + 128 * (i / 128 % 2)) / 2 = i / 128 / 2 ↔ j / 2 = k := by omega
  simp only [e]

/-- Read at the ideal floats. -/
theorem entry (k : Fin 128) (j : Fin 256) :
    (FloatOps.ofBits .f32 (lit0 (S128x256.rowMajor (ix2 k j))) : Ideal .f32) = if j.val / 2 = k.val then (1 : EReal) else 0 := by
  have e : lit0 (S128x256.rowMajor (ix2 k j)) = if j.val / 2 = k.val then 0x3F800000#32 else 0x00000000#32 :=
    word _ k.val j.val ((Shape.rowMajor_val_two (d := ![128, 256]) (ix2 k j)).trans (by show k.val * 256 + j.val = _; omega)) k.isLt j.isLt
  rw [e]
  split
  · exact Consts.one
  · exact Consts.zero

end Cert.Proof.Table.KernelCosIdeal

namespace Cert.Proof.Table.KernelIdeal

open Cert.KernelIdeal Cert.Proof.Table

set_option maxRecDepth 10000 in
/-- The first half of the third version's table, tile by tile. -/
theorem half0 (i : Nat) : lit0t1_0 i = ent (i / 128 % 128) (i % 128) := by
  have h : i / 128 % 128 < 128 := Nat.mod_lt _ (by decide)
  unfold lit0t1_0
  generalize i / 128 % 128 = r at h ⊢
  interval_cases r
  exacts [tile 0 i, tile 1 i, tile 2 i, tile 3 i, tile 4 i, tile 5 i, tile 6 i, tile 7 i,
      tile 8 i, tile 9 i, tile 10 i, tile 11 i, tile 12 i, tile 13 i, tile 14 i, tile 15 i,
      tile 16 i, tile 17 i, tile 18 i, tile 19 i, tile 20 i, tile 21 i, tile 22 i, tile 23 i,
      tile 24 i, tile 25 i, tile 26 i, tile 27 i, tile 28 i, tile 29 i, tile 30 i, tile 31 i,
      tile 32 i, tile 33 i, tile 34 i, tile 35 i, tile 36 i, tile 37 i, tile 38 i, tile 39 i,
      tile 40 i, tile 41 i, tile 42 i, tile 43 i, tile 44 i, tile 45 i, tile 46 i, tile 47 i,
      tile 48 i, tile 49 i, tile 50 i, tile 51 i, tile 52 i, tile 53 i, tile 54 i, tile 55 i,
      tile 56 i, tile 57 i, tile 58 i, tile 59 i, tile 60 i, tile 61 i, tile 62 i, tile 63 i,
      tile 64 i, tile 65 i, tile 66 i, tile 67 i, tile 68 i, tile 69 i, tile 70 i, tile 71 i,
      tile 72 i, tile 73 i, tile 74 i, tile 75 i, tile 76 i, tile 77 i, tile 78 i, tile 79 i,
      tile 80 i, tile 81 i, tile 82 i, tile 83 i, tile 84 i, tile 85 i, tile 86 i, tile 87 i,
      tile 88 i, tile 89 i, tile 90 i, tile 91 i, tile 92 i, tile 93 i, tile 94 i, tile 95 i,
      tile 96 i, tile 97 i, tile 98 i, tile 99 i, tile 100 i, tile 101 i, tile 102 i, tile 103 i,
      tile 104 i, tile 105 i, tile 106 i, tile 107 i, tile 108 i, tile 109 i, tile 110 i, tile 111 i,
      tile 112 i, tile 113 i, tile 114 i, tile 115 i, tile 116 i, tile 117 i, tile 118 i, tile 119 i,
      tile 120 i, tile 121 i, tile 122 i, tile 123 i, tile 124 i, tile 125 i, tile 126 i, tile 127 i]

set_option maxRecDepth 10000 in
/-- The second half, tile by tile. -/
theorem half1 (i : Nat) : lit0t1_1 i = ent (128 + i / 128 % 128) (i % 128) := by
  have h : i / 128 % 128 < 128 := Nat.mod_lt _ (by decide)
  unfold lit0t1_1
  generalize i / 128 % 128 = r at h ⊢
  interval_cases r
  exacts [tile 128 i, tile 129 i, tile 130 i, tile 131 i, tile 132 i, tile 133 i, tile 134 i, tile 135 i,
      tile 136 i, tile 137 i, tile 138 i, tile 139 i, tile 140 i, tile 141 i, tile 142 i, tile 143 i,
      tile 144 i, tile 145 i, tile 146 i, tile 147 i, tile 148 i, tile 149 i, tile 150 i, tile 151 i,
      tile 152 i, tile 153 i, tile 154 i, tile 155 i, tile 156 i, tile 157 i, tile 158 i, tile 159 i,
      tile 160 i, tile 161 i, tile 162 i, tile 163 i, tile 164 i, tile 165 i, tile 166 i, tile 167 i,
      tile 168 i, tile 169 i, tile 170 i, tile 171 i, tile 172 i, tile 173 i, tile 174 i, tile 175 i,
      tile 176 i, tile 177 i, tile 178 i, tile 179 i, tile 180 i, tile 181 i, tile 182 i, tile 183 i,
      tile 184 i, tile 185 i, tile 186 i, tile 187 i, tile 188 i, tile 189 i, tile 190 i, tile 191 i,
      tile 192 i, tile 193 i, tile 194 i, tile 195 i, tile 196 i, tile 197 i, tile 198 i, tile 199 i,
      tile 200 i, tile 201 i, tile 202 i, tile 203 i, tile 204 i, tile 205 i, tile 206 i, tile 207 i,
      tile 208 i, tile 209 i, tile 210 i, tile 211 i, tile 212 i, tile 213 i, tile 214 i, tile 215 i,
      tile 216 i, tile 217 i, tile 218 i, tile 219 i, tile 220 i, tile 221 i, tile 222 i, tile 223 i,
      tile 224 i, tile 225 i, tile 226 i, tile 227 i, tile 228 i, tile 229 i, tile 230 i, tile 231 i,
      tile 232 i, tile 233 i, tile 234 i, tile 235 i, tile 236 i, tile 237 i, tile 238 i, tile 239 i,
      tile 240 i, tile 241 i, tile 242 i, tile 243 i, tile 244 i, tile 245 i, tile 246 i, tile 247 i,
      tile 248 i, tile 249 i, tile 250 i, tile 251 i, tile 252 i, tile 253 i, tile 254 i, tile 255 i]

/-- The word at row `k` and column `j` of the third version's table: the word of one where `j / 2 = k`, of zero elsewhere. -/
theorem word (i k j : Nat) (hi : i = 256 * k + j) (hk : k < 128) (hj : j < 256) :
    lit0t i = if j / 2 = k then 0x3F800000#32 else 0x00000000#32 := by
  have h2 : i / 16384 < 2 := by omega
  have key : lit0t i = ent (i / 128) (i % 128) := by
    rcases Nat.lt_or_ge i 16384 with hlt | hge
    · have e : i / 16384 = 0 := by omega
      have : lit0t i = lit0t1_0 i := by unfold lit0t; rw [e]; rfl
      rw [this, half0, show i / 128 % 128 = i / 128 by omega]
    · have e : i / 16384 = 1 := by omega
      have : lit0t i = lit0t1_1 i := by unfold lit0t; rw [e]; rfl
      rw [this, half1, show 128 + i / 128 % 128 = i / 128 by omega]
  rw [key]
  unfold ent
  have e : (i % 128 + 128 * (i / 128 % 2)) / 2 = i / 128 / 2 ↔ j / 2 = k := by omega
  simp only [e]

/-- Read at the ideal floats. -/
theorem entry (k : Fin 128) (j : Fin 256) :
    (FloatOps.ofBits .f32 (lit0 (S128x256.rowMajor (ix2 k j))) : Ideal .f32) = if j.val / 2 = k.val then (1 : EReal) else 0 := by
  have e : lit0 (S128x256.rowMajor (ix2 k j)) = if j.val / 2 = k.val then 0x3F800000#32 else 0x00000000#32 :=
    word _ k.val j.val ((Shape.rowMajor_val_two (d := ![128, 256]) (ix2 k j)).trans (by show k.val * 256 + j.val = _; omega)) k.isLt j.isLt
  rw [e]
  split
  · exact Consts.one
  · exact Consts.zero

end Cert.Proof.Table.KernelIdeal

end
-- ==== Proof.CosBlocks.lean ====
/- The first version's idealization, read: its result array is the cosine of the spread columns plus the lane's phase,
   beside the copied columns. -/
module

public import proofs.«01_k».proof.Proof.Gen.KernelCosIdeal.Value
public import proofs.«01_k».proof.Proof.Table
public import Idealize.ShloMosaic.Lib.MatmulPlain
public import Idealize.ShloMosaic.Lib.Pipeline.Value
public import Idealize.ShloMosaic.Lib.Pipeline.ValueKit.Tiles
public import Idealize.ShloMosaic.PureOps.IdealRules

@[expose] public section

set_option maxRecDepth 16384

noncomputable section

open Idealize.ShloMosaic Idealize.ShloMosaic.TcCoe Idealize.SL.Sem Idealize.ShloMosaic.ValueIdx
open Idealize.ShloMosaic.Pipeline (Dat)

namespace Cert.KernelCosIdeal.Blocks

open Cert.KernelCosIdeal Cert.KernelCosIdeal.Gen

/-- The phase of a lane: `π` on the even ones, `π/2` on the odd ones. -/
def phase (j : Nat) : EReal := if j % 2 = 0 then ((Real.pi : ℝ) : EReal) else (((1 / 2) * Real.pi : ℝ) : EReal)

/-- What the result array is shown to hold, of the argument array. -/
def out (x : S65536x256.Idx → EReal) (i : S65536x384.Idx) : EReal :=
  if h : (i 1).val < 256 then Ideal.cos (x (ix2 (i 0) ⟨(i 1).val / 2, by omega⟩) + phase (i 1).val)
  else x (ix2 (i 0) ⟨(i 1).val - 128, by have := idx2_lt1 i; omega⟩)

/-- The product of a block with the spreading table picks one column. -/
theorem pick_column (l : Fin 128 → EReal) (e : Fin 128 → EReal) (j : Fin 256)
    (he : ∀ k : Fin 128, e k = if j.val / 2 = k.val then 1 else 0) :
    ∑ k : Fin 128, l k * e k = l ⟨j.val / 2, by omega⟩ := by
  rw [Finset.sum_eq_single (⟨j.val / 2, by omega⟩ : Fin 128)]
  · rw [he, if_pos rfl, mul_one]
  · intro k _ hk
    rw [he, if_neg (fun h => hk (Fin.ext h.symm)), mul_zero]
  · intro h; exact absurd (Finset.mem_univ _) h

/-- The store of the first 256 columns, at an index. -/
theorem pay1_apply (v0 : Vec Ideal S1024x256 .f32) (v2 : Vec Ideal S128x256 .f32)
    (he : ∀ (k : Fin 128) (j : Fin 256), v2 (ix2 k j) = if j.val / 2 = k.val then (1 : EReal) else 0)
    (a : Fin 1024) (b : Fin 256) :
    k0_pay1 v0 v2 (ix2 a b) = Ideal.cos (v0 (ix2 a ⟨b.val / 2, by omega⟩) + phase b.val) := by
  have hm : FloatOps.matmul (F := Ideal) (φ₁ := .f32) (φ₂ := .f32) dot_S1024x128_S128x256_S1024x256_1_0_0_1_n_n none
      (extractStridedSlice S1024x128 ![0, 0] v0 slices_S1024x256_o0_0_S1024x128) v2
      (constant (F := Ideal) S1024x256 .f32 0x00000000#32) (ix2 a b) = v0 (ix2 a ⟨b.val / 2, by omega⟩) := by
    rw [show dot_S1024x128_S128x256_S1024x256_1_0_0_1_n_n = DotDims.plain 1024 128 256 from rfl, Ideal.matmul_plain_apply]
    rw [show constant (F := Ideal) S1024x256 .f32 0x00000000#32 (ix2 a b) = (0 : EReal) from Proof.Consts.zero, zero_add]
    rw [pick_column _ _ b fun k => he k b]
    refine extractStridedSlice_apply _ _ _ _ _ fun d => ?_
    fin_cases d <;> simp
  have hp : Scalar.select (IntOp.cmpi .eq (Scalar.select (IntOp.andi (IntOp.xori
        (IntOp.cmpi .slt (IntOp.remsi .vector (BitVec.ofNat 32 b.val) 2#32) 0#32) 0#1)
        (IntOp.cmpi .ne (IntOp.remsi .vector (BitVec.ofNat 32 b.val) 2#32) 0#32))
        (IntOp.addi (IntOp.remsi .vector (BitVec.ofNat 32 b.val) 2#32) 2#32)
        (IntOp.remsi .vector (BitVec.ofNat 32 b.val) 2#32)) 0#32)
      (Named.named (F := Ideal) κ "pi" 0x40490FDB#32 : Ideal .f32) (Named.named (F := Ideal) κ "half_pi" 0x3FC90FDB#32 : Ideal .f32)
      = phase b.val := by
    rw [Proof.Consts.lane_even _ b.isLt]
    unfold phase
    split
    · exact IdealRules.named_const.ideal_named_scalar _ _ _ _ rfl
    · exact IdealRules.named_const.ideal_named_scalar _ _ _ _ rfl
  have hi : iota .tc S1024x256 32 [1] iota_S1024x256_d1_w32 (ix2 a b) = BitVec.ofNat 32 b.val := by
    show BitVec.ofNat 32 (0 * 256 + b.val) = _
    rw [zero_mul, zero_add]
  rw [← hi] at hp
  rw [← hm, ← hp]
  rfl

/-- The store of the copied columns, at an index. -/
theorem pay2_apply (v0 : Vec Ideal S1024x256 .f32) (a : Fin 1024) (b : Fin 128) :
    k0_pay2 v0 (ix2 a b) = v0 (ix2 a ⟨128 + b.val, by omega⟩) := by
  show extractStridedSlice S1024x128 ![0, 128] v0 slices_S1024x256_o0_128_S1024x128 (ix2 a b) = _
  refine extractStridedSlice_apply _ _ _ _ _ fun d => ?_
  fin_cases d <;> simp

theorem hz : (![0, 0] : Fin 2 → Nat) = fun _ => 0 := funext fun a => by fin_cases a <;> rfl

/-- What the body leaves in the output's block, of its two input blocks: the result of one block. -/
theorem block_apply (c : Dev nD) (i : grid0.Coords) (arg1 : Memref sig .tc .vmem S1024x256 .f32) (h1 : arg1.IsWhole)
    (arg2 : Memref sig .tc .vmem S128x256 .f32) (h2 : arg2.IsWhole) (arg3 : Memref sig .tc .vmem S1024x384 .f32) (h3 : arg3.IsWhole)
    (v0 : Vec Ideal S1024x256 .f32) (v2 : Vec Ideal S128x256 .f32)
    (he : ∀ (k : Fin 128) (j : Fin 256), v2 (ix2 k j) = if j.val / 2 = k.val then (1 : EReal) else 0)
    (a : Fin 1024) (b : Fin 384) :
    out0_A_2 (F := Ideal) c i arg1 h1 arg2 h2 arg3 h3 v0 v2 (ix2 a b)
      = if h : b.val < 256 then Ideal.cos (v0 (ix2 a ⟨b.val / 2, by omega⟩) + phase b.val)
        else v0 (ix2 a ⟨b.val - 128, by omega⟩) := by
  unfold out0_A_2
  have hc := cover0_A_2 (F := Ideal) c i arg1 h1 arg2 h2 arg3 h3 v0 v2
  rw [View.read_writes_eq_canon _ _ _ hc]
  refine View.canon_eq_of_allAt _ _ _ (hc _) ?_
  unfold kernelRun0_A
  dsimp only
  sl_unfold_words
  simp only [View.readAt_eq_ld, h1.read_unread, h2.read_unread, View.ld_unit_zero (S := S1024x256) hz, View.ld_unit_zero (S := S128x256) hz]
  refine View.allAt_cons_unit _ _ _ _ _ ?_ (View.allAt_cons_unit _ _ _ _ _ ?_ (View.allAt_nil _ _))
  · intro x hx
    obtain ⟨p, q, rfl⟩ : ∃ p q, x = ix2 p q := ⟨_, _, eq_ix2 x⟩
    have hx0 : a.val = 0 + p.val := hx 0
    have hx1 : b.val = 256 + q.val := hx 1
    rw [dif_neg (by omega), pay2_apply]
    refine congrArg v0 (funext fun d => ?_)
    fin_cases d <;> apply Fin.ext
    · show p.val = a.val; omega
    · show 128 + q.val = b.val - 128; omega
  · intro x hx
    obtain ⟨p, q, rfl⟩ : ∃ p q, x = ix2 p q := ⟨_, _, eq_ix2 x⟩
    have hx0 : a.val = 0 + p.val := hx 0
    have hx1 : b.val = 0 + q.val := hx 1
    have hlt : q.val < 256 := q.isLt
    have e0 : p = a := Fin.ext (by omega)
    have hb : b.val = q.val := by omega
    rw [dif_pos (by omega), e0, pay1_apply _ _ he]
    simp only [hb]

/-! ## The launch: the blocks placed in their arrays -/

variable (m : (ℓ : Loc nD τ sig) → Buf (Elt Ideal) ℓ) (ρ : Dev nD → PrngReg)

/-- Where the windows' blocks stand: the argument's and the result's at the point's rows, the table's at its corner. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0
    ∧ win0_2.xsize (grid0.coords t) 0 = 1024 ∧ win0_2.xsize (grid0.coords t) 1 = 384 ∧ t.val < 64 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0
    ∧ win0_2.xsize (grid0.coords t) 0 = 1024 ∧ win0_2.xsize (grid0.coords t) 1 = 384 ∧ t.val < 64)

/-- The argument array of a device. -/
abbrev arg (c : Dev nD) : S65536x256.Idx → EReal := m ((c : Thread nD τ).loc main_arg0)

/-- The argument's block at a point: 1024 rows of the argument. -/
theorem block0 (c : Dev nD) (t : Fin cfg0.N) (a : Fin 1024) (b : Fin 256) (r : Fin 65536) (hr : r.val = t.val * 1024 + a.val) :
    (iblk m c 0 t : Vec Ideal S1024x256 .f32) (ix2 a b) = arg m c (ix2 r b) := by
  show V m c main_arg0 ((win0_0.rect t).emb (ix2 a b)) = _
  rw [V_main_arg0]
  refine congrArg (arg m c) (funext fun d => Fin.ext ?_)
  obtain ⟨h0, h1, -⟩ := places t
  match d with
  | ⟨0, _⟩ =>
    refine (win0_0.rect_emb_val t (ix2 a b) 0).trans ?_
    rw [h0]; show t.val * 1024 + a.val = r.val; omega
  | ⟨1, _⟩ =>
    refine (win0_0.rect_emb_val t (ix2 a b) 1).trans ?_
    rw [h1]; show 0 * 256 + b.val = b.val; omega

/-- The table's block at a point: the whole table. -/
theorem block1 (c : Dev nD) (t : Fin cfg0.N) (k : Fin 128) (j : Fin 256) :
    (iblk m c 1 t : Vec Ideal S128x256 .f32) (ix2 k j) = if j.val / 2 = k.val then (1 : EReal) else 0 := by
  show V m c main_cst ((win0_1.rect t).emb (ix2 k j)) = _
  let table : S128x256.Idx → Ideal .f32 := fun i => FloatOps.ofBits .f32 (lit0 (S128x256.rowMajor i))
  have e (i : S128x256.Idx) : (V m c main_cst : S128x256.Idx → Ideal .f32) i = table i := by
    refine congrFun ?_ i
    show StableHlo.after [StableHlo.nullary main_cst table] (fun b => m (c, b)) (Proc.devRef .tc main_cst) = table
    rw [StableHlo.after_cons, StableHlo.after_nil]
    exact StableHlo.nullary_result ..
  refine (e _).trans (Eq.trans ?_ (Proof.Table.KernelCosIdeal.entry k j))
  refine congrArg table (funext fun d => Fin.ext ?_)
  obtain ⟨-, -, h0, h1, -⟩ := places t
  match d with
  | ⟨0, _⟩ => exact (win0_1.rect_emb_val_of_index_zero t 0 h0 (ix2 k j))
  | ⟨1, _⟩ => exact (win0_1.rect_emb_val_of_index_zero t 1 h1 (ix2 k j))

/-- What a point writes back is its block of `out` of the argument. -/
theorem flushed_eq (c : Dev nD) (t : Fin cfg0.N) :
    (dats m 0 c).flushed 2 t = ((cfg0.win 2).blk t).view.read (Elt Ideal) (out (arg m c)) := by
  rw [Value.flushed2_A]
  funext y
  obtain ⟨a, b, rfl⟩ : ∃ (a : Fin 1024) (b : Fin 384), y = ix2 a b := ⟨_, _, eq_ix2 y⟩
  obtain ⟨-, -, -, -, h0, h1, -, -, ht⟩ := places t
  have hr : t.val * 1024 + a.val < 65536 := by have := a.isLt; omega
  have hemb : (win0_2.rect t).emb (ix2 a b) = (ix2 ⟨t.val * 1024 + a.val, hr⟩ b : S65536x384.Idx) := by
    funext d
    apply Fin.ext
    match d with
    | ⟨0, _⟩ =>
      refine (win0_2.rect_emb_val t (ix2 a b) 0).trans ?_
      rw [h0]; rfl
    | ⟨1, _⟩ => exact (win0_2.rect_emb_val_of_index_zero t 1 h1 (ix2 a b))
  show out0_A_2 c (grid0.coords t) (ms0_0 t) (hs0_0 t) (ms0_1 t) (hs0_1 t) (ms0_2 t) (hs0_2 t) (iblk m c 0 t) (iblk m c 1 t) (ix2 a b)
    = out (arg m c) ((win0_2.rect t).emb (ix2 a b))
  rw [hemb, block_apply _ _ _ _ _ _ _ _ _ _ (block1 m c t)]
  unfold out
  by_cases hb : b.val < 256
  · rw [dif_pos hb, dif_pos hb, block0 m c t a _ ⟨t.val * 1024 + a.val, hr⟩ rfl]
  · rw [dif_neg hb, dif_neg hb, block0 m c t a _ ⟨t.val * 1024 + a.val, hr⟩ rfl]

/-- An index of the result is in a point's block exactly when its row is one of the point's. -/
theorem mem_blk (t : Fin cfg0.N) (i : S65536x384.Idx) (h : t.val * 1024 ≤ (i 0).val ∧ (i 0).val < t.val * 1024 + 1024) :
    i ∈ ((cfg0.win 2).blk t).view.set := by
  show i ∈ ((View.whole main_v0).slice (win0_2.rect t)).set
  rw [View.set_slice_whole, Rect.mem_set_unit]
  have hi1 := idx2_lt1 i
  obtain ⟨-, -, -, -, h0, h1, x0, x1, -⟩ := places t
  intro d
  match d with
  | ⟨0, _⟩ =>
    show win0_2.index t 0 * 1024 ≤ (i 0).val ∧ (i 0).val < win0_2.index t 0 * 1024 + win0_2.xsize (grid0.coords t) 0
    rw [h0, x0]; exact h
  | ⟨1, _⟩ =>
    show win0_2.index t 1 * 384 ≤ (i 1).val ∧ (i 1).val < win0_2.index t 1 * 384 + win0_2.xsize (grid0.coords t) 1
    rw [h1, x1]; omega

/-- Every index of the result is in some point's block. -/
theorem cover (i : S65536x384.Idx) : ∃ t : Fin cfg0.N, (cfg0.win 2).flush t = true ∧ i ∈ ((cfg0.win 2).blk t).view.set := by
  have h0 := idx2_lt0 i
  have hN : cfg0.N = 64 := N_0
  refine ⟨⟨(i 0).val / 1024, by omega⟩, flush0_2 _, mem_blk _ i ?_⟩
  dsimp only
  omega

/-- The result array after the run. -/
theorem final (c : Dev nD) : (dats m 0 c).arrAt 2 cfg0.N = out (arg m c) :=
  (dats m 0 c).arrAt_eq_of_cover 2 (out (arg m c)) (fun t _ => flushed_eq m c t) cover

/-- The run: the result array holds `out` of the argument, and the argument is as it was. -/
theorem run : θ_run defs (onTc (τ := τ) (main (F := Ideal))) ⟨m, fun _ => 0, ρ⟩ fun r => ∀ c : Dev nD,
      r.2.mem ((c : Thread nD τ).loc main_v0) = out (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelCosIdeal.Blocks

end
-- ==== Proof.FastBlocks.lean ====
/- The third version's idealization, read: its result array is the kernel's polynomial of the reduced angle, the spread
   columns plus the lane's phase, beside the copied columns. -/
module

public import proofs.«01_k».proof.Proof.Gen.KernelIdeal.Value
public import proofs.«01_k».proof.Proof.Table
public import Idealize.ShloMosaic.Lib.MatmulPlain
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- The phase of a lane: the word of `π` on the even ones, the word of `π/2` on the odd ones. -/
def phase (j : Nat) : EReal :=
  if j % 2 = 0 then Ideal.ofBits .f32 0x40490FDB#32 else Ideal.ofBits .f32 0x3FC90FDB#32

/-- The kernel's count of whole turns in an angle. -/
def turns (t : EReal) : EReal := Ideal.liftRound Ideal.roundHalfEven (t * Ideal.ofBits .f32 0x3E22F983#32)

/-- The kernel's reduced angle: the angle less its whole turns, the turn in two parts. -/
def reduced (t : EReal) : EReal :=
  (t - turns t * Ideal.ofBits .f32 0x40C90000#32) - turns t * Ideal.ofBits .f32 0x3AFDAA22#32

/-- The kernel's polynomial, of the square of the reduced angle. -/
def poly (u : EReal) : EReal :=
  ((((Ideal.ofBits .f32 0xB46DA452#32 * u + Ideal.ofBits .f32 0x37CB5713#32) * u + Ideal.ofBits .f32 0xBAB5B06E#32) * u
    + Ideal.ofBits .f32 0x3D2AA477#32) * u + Ideal.ofBits .f32 0xBEFFFF62#32) * u + Ideal.ofBits .f32 0x3F7FFFF6#32

/-- What the kernel takes for the cosine of an angle. -/
def fast (t : EReal) : EReal := poly (reduced t * reduced t)

/-- What the result array is shown to hold, of the argument array. -/
def out (x : S65536x256.Idx → EReal) (i : S65536x384.Idx) : EReal :=
  if h : (i 1).val < 256 then fast (x (ix2 (i 0) ⟨(i 1).val / 2, by omega⟩) + phase (i 1).val)
  else x (ix2 (i 0) ⟨(i 1).val - 128, by have := idx2_lt1 i; omega⟩)

/-- The product of a block with the spreading table picks one column. -/
theorem pick_column (l : Fin 128 → EReal) (e : Fin 128 → EReal) (j : Fin 256)
    (he : ∀ k : Fin 128, e k = if j.val / 2 = k.val then 1 else 0) :
    ∑ k : Fin 128, l k * e k = l ⟨j.val / 2, by omega⟩ := by
  rw [Finset.sum_eq_single (⟨j.val / 2, by omega⟩ : Fin 128)]
  · rw [he, if_pos rfl, mul_one]
  · intro k _ hk
    rw [he, if_neg (fun h => hk (Fin.ext h.symm)), mul_zero]
  · intro h; exact absurd (Finset.mem_univ _) h

/-- The store of the first 256 columns, at an index. -/
theorem pay1_apply (v0 : Vec Ideal S4096x256 .f32) (v2 : Vec Ideal S128x256 .f32)
    (he : ∀ (k : Fin 128) (j : Fin 256), v2 (ix2 k j) = if j.val / 2 = k.val then (1 : EReal) else 0)
    (a : Fin 4096) (b : Fin 256) :
    k0_pay1 (k0_pay3 v0 v2) (k0_pay4 v0 v2) (k0_pay5 (F := Ideal)) (ix2 a b) = fast (v0 (ix2 a ⟨b.val / 2, by omega⟩) + phase b.val) := by
  have hm : FloatOps.matmul (F := Ideal) (φ₁ := .f32) (φ₂ := .f32) dot_S4096x128_S128x256_S4096x256_1_0_0_1_n_n none
      (extractStridedSlice S4096x128 ![0, 0] v0 slices_S4096x256_o0_0_S4096x128) v2
      (constant (F := Ideal) S4096x256 .f32 0x00000000#32) (ix2 a b) = v0 (ix2 a ⟨b.val / 2, by omega⟩) := by
    rw [show dot_S4096x128_S128x256_S4096x256_1_0_0_1_n_n = DotDims.plain 4096 128 256 from rfl, Ideal.matmul_plain_apply]
    rw [show constant (F := Ideal) S4096x256 .f32 0x00000000#32 (ix2 a b) = (0 : EReal) from Proof.Consts.zero, zero_add]
    rw [pick_column _ _ b fun k => he k b]
    refine extractStridedSlice_apply _ _ _ _ _ fun d => ?_
    fin_cases d <;> simp
  have hp : Scalar.select (IntOp.cmpi .eq (Scalar.select (IntOp.andi (IntOp.xori
        (IntOp.cmpi .slt (IntOp.remsi .vector (BitVec.ofNat 32 b.val) 2#32) 0#32) 0#1)
        (IntOp.cmpi .ne (IntOp.remsi .vector (BitVec.ofNat 32 b.val) 2#32) 0#32))
        (IntOp.addi (IntOp.remsi .vector (BitVec.ofNat 32 b.val) 2#32) 2#32)
        (IntOp.remsi .vector (BitVec.ofNat 32 b.val) 2#32)) 0#32)
      (Ideal.ofBits .f32 0x40490FDB#32) (Ideal.ofBits .f32 0x3FC90FDB#32) = phase b.val := by
    rw [Proof.Consts.lane_even _ b.isLt]
    unfold phase
    split <;> rfl
  have hi : iota .tc S4096x256 32 [1] iota_S4096x256_d1_w32 (ix2 a b) = BitVec.ofNat 32 b.val := by
    show BitVec.ofNat 32 (0 * 256 + b.val) = _
    rw [zero_mul, zero_add]
  rw [← hi] at hp
  rw [← hm, ← hp]
  rfl

/-- The store of the copied columns, at an index. -/
theorem pay2_apply (v0 : Vec Ideal S4096x256 .f32) (a : Fin 4096) (b : Fin 128) :
    k0_pay2 v0 (ix2 a b) = v0 (ix2 a ⟨128 + b.val, by omega⟩) := by
  show extractStridedSlice S4096x128 ![0, 128] v0 slices_S4096x256_o0_128_S4096x128 (ix2 a b) = _
  refine extractStridedSlice_apply _ _ _ _ _ fun d => ?_
  fin_cases d <;> simp

theorem hz : (![0, 0] : Fin 2 → Nat) = fun _ => 0 := funext fun a => by fin_cases a <;> rfl

/-- What the body leaves in the output's block, of its two input blocks: the result of one block. -/
theorem block_apply (c : Dev nD) (i : grid0.Coords) (arg1 : Memref sig .tc .vmem S4096x256 .f32) (h1 : arg1.IsWhole)
    (arg2 : Memref sig .tc .vmem S128x256 .f32) (h2 : arg2.IsWhole) (arg3 : Memref sig .tc .vmem S4096x384 .f32) (h3 : arg3.IsWhole)
    (v0 : Vec Ideal S4096x256 .f32) (v2 : Vec Ideal S128x256 .f32)
    (he : ∀ (k : Fin 128) (j : Fin 256), v2 (ix2 k j) = if j.val / 2 = k.val then (1 : EReal) else 0)
    (a : Fin 4096) (b : Fin 384) :
    out0_A_2 (F := Ideal) c i arg1 h1 arg2 h2 arg3 h3 v0 v2 (ix2 a b)
      = if h : b.val < 256 then fast (v0 (ix2 a ⟨b.val / 2, by omega⟩) + phase b.val)
        else v0 (ix2 a ⟨b.val - 128, by omega⟩) := by
  unfold out0_A_2
  have hc := cover0_A_2 (F := Ideal) c i arg1 h1 arg2 h2 arg3 h3 v0 v2
  rw [View.read_writes_eq_canon _ _ _ hc]
  refine View.canon_eq_of_allAt _ _ _ (hc _) ?_
  unfold kernelRun0_A
  dsimp only
  sl_unfold_words
  simp only [View.readAt_eq_ld, h1.read_unread, h2.read_unread, View.ld_unit_zero (S := S4096x256) hz, View.ld_unit_zero (S := S128x256) hz]
  refine View.allAt_cons_unit _ _ _ _ _ ?_ (View.allAt_cons_unit _ _ _ _ _ ?_ (View.allAt_nil _ _))
  · intro x hx
    obtain ⟨p, q, rfl⟩ : ∃ p q, x = ix2 p q := ⟨_, _, eq_ix2 x⟩
    have hx0 : a.val = 0 + p.val := hx 0
    have hx1 : b.val = 256 + q.val := hx 1
    rw [dif_neg (by omega), pay2_apply]
    refine congrArg v0 (funext fun d => ?_)
    fin_cases d <;> apply Fin.ext
    · show p.val = a.val; omega
    · show 128 + q.val = b.val - 128; omega
  · intro x hx
    obtain ⟨p, q, rfl⟩ : ∃ p q, x = ix2 p q := ⟨_, _, eq_ix2 x⟩
    have hx0 : a.val = 0 + p.val := hx 0
    have hx1 : b.val = 0 + q.val := hx 1
    have hlt : q.val < 256 := q.isLt
    have e0 : p = a := Fin.ext (by omega)
    have hb : b.val = q.val := by omega
    rw [dif_pos (by omega), e0, pay1_apply _ _ he]
    simp only [hb]

/-! ## The launch: the blocks placed in their arrays -/

variable (m : (ℓ : Loc nD τ sig) → Buf (Elt Ideal) ℓ) (ρ : Dev nD → PrngReg)

/-- Where the windows' blocks stand: the argument's and the result's at the point's rows, the table's at its corner. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0
    ∧ win0_2.xsize (grid0.coords t) 0 = 4096 ∧ win0_2.xsize (grid0.coords t) 1 = 384 ∧ t.val < 16 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0
    ∧ win0_2.xsize (grid0.coords t) 0 = 4096 ∧ win0_2.xsize (grid0.coords t) 1 = 384 ∧ t.val < 16)

/-- The argument array of a device. -/
abbrev arg (c : Dev nD) : S65536x256.Idx → EReal := m ((c : Thread nD τ).loc main_arg0)

/-- The argument's block at a point: 4096 rows of the argument. -/
theorem block0 (c : Dev nD) (t : Fin cfg0.N) (a : Fin 4096) (b : Fin 256) (r : Fin 65536) (hr : r.val = t.val * 4096 + a.val) :
    (iblk m c 0 t : Vec Ideal S4096x256 .f32) (ix2 a b) = arg m c (ix2 r b) := by
  show V m c main_arg0 ((win0_0.rect t).emb (ix2 a b)) = _
  rw [V_main_arg0]
  refine congrArg (arg m c) (funext fun d => Fin.ext ?_)
  obtain ⟨h0, h1, -⟩ := places t
  match d with
  | ⟨0, _⟩ =>
    refine (win0_0.rect_emb_val t (ix2 a b) 0).trans ?_
    rw [h0]; show t.val * 4096 + a.val = r.val; omega
  | ⟨1, _⟩ =>
    refine (win0_0.rect_emb_val t (ix2 a b) 1).trans ?_
    rw [h1]; show 0 * 256 + b.val = b.val; omega

/-- The table's block at a point: the whole table. -/
theorem block1 (c : Dev nD) (t : Fin cfg0.N) (k : Fin 128) (j : Fin 256) :
    (iblk m c 1 t : Vec Ideal S128x256 .f32) (ix2 k j) = if j.val / 2 = k.val then (1 : EReal) else 0 := by
  show V m c main_cst ((win0_1.rect t).emb (ix2 k j)) = _
  let table : S128x256.Idx → Ideal .f32 := fun i => FloatOps.ofBits .f32 (lit0 (S128x256.rowMajor i))
  have e (i : S128x256.Idx) : (V m c main_cst : S128x256.Idx → Ideal .f32) i = table i := by
    refine congrFun ?_ i
    show StableHlo.after [StableHlo.nullary main_cst table] (fun b => m (c, b)) (Proc.devRef .tc main_cst) = table
    rw [StableHlo.after_cons, StableHlo.after_nil]
    exact StableHlo.nullary_result ..
  refine (e _).trans (Eq.trans ?_ (Proof.Table.KernelIdeal.entry k j))
  refine congrArg table (funext fun d => Fin.ext ?_)
  obtain ⟨-, -, h0, h1, -⟩ := places t
  match d with
  | ⟨0, _⟩ => exact (win0_1.rect_emb_val_of_index_zero t 0 h0 (ix2 k j))
  | ⟨1, _⟩ => exact (win0_1.rect_emb_val_of_index_zero t 1 h1 (ix2 k j))

/-- What a point writes back is its block of `out` of the argument. -/
theorem flushed_eq (c : Dev nD) (t : Fin cfg0.N) :
    (dats m 0 c).flushed 2 t = ((cfg0.win 2).blk t).view.read (Elt Ideal) (out (arg m c)) := by
  rw [Value.flushed2_A]
  funext y
  obtain ⟨a, b, rfl⟩ : ∃ (a : Fin 4096) (b : Fin 384), y = ix2 a b := ⟨_, _, eq_ix2 y⟩
  obtain ⟨-, -, -, -, h0, h1, -, -, ht⟩ := places t
  have hr : t.val * 4096 + a.val < 65536 := by have := a.isLt; omega
  have hemb : (win0_2.rect t).emb (ix2 a b) = (ix2 ⟨t.val * 4096 + a.val, hr⟩ b : S65536x384.Idx) := by
    funext d
    apply Fin.ext
    match d with
    | ⟨0, _⟩ =>
      refine (win0_2.rect_emb_val t (ix2 a b) 0).trans ?_
      rw [h0]; rfl
    | ⟨1, _⟩ => exact (win0_2.rect_emb_val_of_index_zero t 1 h1 (ix2 a b))
  show out0_A_2 c (grid0.coords t) (ms0_0 t) (hs0_0 t) (ms0_1 t) (hs0_1 t) (ms0_2 t) (hs0_2 t) (iblk m c 0 t) (iblk m c 1 t) (ix2 a b)
    = out (arg m c) ((win0_2.rect t).emb (ix2 a b))
  rw [hemb, block_apply _ _ _ _ _ _ _ _ _ _ (block1 m c t)]
  unfold out
  by_cases hb : b.val < 256
  · rw [dif_pos hb, dif_pos hb, block0 m c t a _ ⟨t.val * 4096 + a.val, hr⟩ rfl]
  · rw [dif_neg hb, dif_neg hb, block0 m c t a _ ⟨t.val * 4096 + a.val, hr⟩ rfl]

/-- An index of the result is in a point's block exactly when its row is one of the point's. -/
theorem mem_blk (t : Fin cfg0.N) (i : S65536x384.Idx) (h : t.val * 4096 ≤ (i 0).val ∧ (i 0).val < t.val * 4096 + 4096) :
    i ∈ ((cfg0.win 2).blk t).view.set := by
  show i ∈ ((View.whole main_v0).slice (win0_2.rect t)).set
  rw [View.set_slice_whole, Rect.mem_set_unit]
  have hi1 := idx2_lt1 i
  obtain ⟨-, -, -, -, h0, h1, x0, x1, -⟩ := places t
  intro d
  match d with
  | ⟨0, _⟩ =>
    show win0_2.index t 0 * 4096 ≤ (i 0).val ∧ (i 0).val < win0_2.index t 0 * 4096 + win0_2.xsize (grid0.coords t) 0
    rw [h0, x0]; exact h
  | ⟨1, _⟩ =>
    show win0_2.index t 1 * 384 ≤ (i 1).val ∧ (i 1).val < win0_2.index t 1 * 384 + win0_2.xsize (grid0.coords t) 1
    rw [h1, x1]; omega

/-- Every index of the result is in some point's block. -/
theorem cover (i : S65536x384.Idx) : ∃ t : Fin cfg0.N, (cfg0.win 2).flush t = true ∧ i ∈ ((cfg0.win 2).blk t).view.set := by
  have h0 := idx2_lt0 i
  have hN : cfg0.N = 16 := N_0
  refine ⟨⟨(i 0).val / 4096, by omega⟩, flush0_2 _, mem_blk _ i ?_⟩
  dsimp only
  omega

/-- The result array after the run. -/
theorem final (c : Dev nD) : (dats m 0 c).arrAt 2 cfg0.N = out (arg m c) :=
  (dats m 0 c).arrAt_eq_of_cover 2 (out (arg m c)) (fun t _ => flushed_eq m c t) cover

/-- The run: the result array holds `out` of the argument, and the argument is as it was. -/
theorem run : θ_run defs (onTc (τ := τ) (main (F := Ideal))) ⟨m, fun _ => 0, ρ⟩ fun r => ∀ c : Dev nD,
      r.2.mem ((c : Thread nD τ).loc main_v0) = out (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Blocks

end
-- ==== Proof.RefColumns.lean ====
/- The reference's result, read at an index: cosines of the shifted columns on the even lanes, their sines on the odd
   lanes, and the other columns as they are. -/
module

public import proofs.«01_k».proof.Proof.Gen.ReferenceIdeal.Run
public import proofs.«01_k».proof.Proof.Consts
public import Idealize.ShloMosaic.Lib.Pipeline.Value
public import Idealize.ShloMosaic.Lib.Routing.OpsSet
public import Idealize.ShloMosaic.Lib.ReduceAll
public import Idealize.ShloMosaic.PureOps.IdealRules

@[expose] public section

set_option maxRecDepth 16384

noncomputable section

open Idealize.ShloMosaic Idealize.ShloMosaic.TcCoe Idealize.SL.Sem Idealize.ShloMosaic.ValueIdx

namespace Cert.ReferenceIdeal.Columns

open Cert.ReferenceIdeal Cert.ReferenceIdeal.Gen Cert.ReferenceIdeal.Value

/-! ## The column scatter and the column gather -/

/-- The scatter of the three column writes. -/
abbrev put := scatter_S65536x384_S128x1_S65536x128_0_1_1_1

/-- The gather of the two column reads. -/
abbrev get := gather_S65536x256_S128x1_S65536x128_0_1_n_n_1_1_655361

/-- Update `(r', p)` lands at `(r, e)` exactly when the rows agree and index word `p` is `e`. -/
theorem lands (idx : IVec S128x1 32) (r' r : Fin 65536) (p : Fin 128) (e : Fin 384) :
    put.resultIdx? (ix2 r' p) idx = some (ix2 r e) ↔ r' = r ∧ (idx (ix2 p (0 : Fin 1))).toInt = (e.val : Int) := by
  have hw1 : put.window (ix2 r' p) 1 = 0 := by
    unfold ScatterDims.window
    rw [dif_neg (by decide)]
  have hw0 : put.window (ix2 r' p) 0 = r'.val := by
    unfold ScatterDims.window
    rw [dif_pos (by decide)]
    rfl
  have hs0 : put.start (ix2 r' p) idx 0 = 0 := by
    unfold ScatterDims.start
    rw [dif_neg (by decide)]
  have hm : (1 : Fin 2) ∈ put.scatterDimsToOperandDims := by decide
  have hs1 : put.start (ix2 r' p) idx 1 = (idx (ix2 p (0 : Fin 1))).toInt := by
    unfold ScatterDims.start
    rw [dif_pos hm]
    have hsi : put.siIdx (ix2 r' p) ⟨put.scatterDimsToOperandDims.idxOf 1, List.idxOf_lt_length_iff.2 hm⟩ = ix2 p (0 : Fin 1) := by
      funext b; refine Fin.ext ?_
      match b with
      | ⟨0, _⟩ => rfl
      | ⟨1, _⟩ => rfl
    rw [hsi]
  have key := Routing.resultIdx?_ix2 (R := 65536) (C := 384) put (ix2 r' p) idx r e
  rw [hs0, hw0, hs1, hw1] at key
  rw [key, Fin.ext_iff]
  omega

/-- The columns written, read at a column that index word `p` names and no other does. -/
theorem put_hit (x0 : S65536x384.Idx → EReal) (idx : IVec S128x1 32) (upd : S65536x128.Idx → EReal) (g : Fin 128 → Fin 384)
    (hg : ∀ p, (idx (ix2 p (0 : Fin 1))).toInt = ((g p).val : Int)) (r : Fin 65536) (p : Fin 128)
    (one : ∀ q, g q = g p → q = p) : Host.scatter put (fun _ b => b) x0 idx upd (ix2 r (g p)) = upd (ix2 r p) := by
  refine Routing.scatter_set_hit put x0 idx upd _ _ (fun k hk => ?_) (ix2 r p) ((lands idx r r p (g p)).2 ⟨rfl, hg p⟩)
  obtain ⟨a, b, rfl⟩ : ∃ a b, k = ix2 a b := ⟨_, _, eq_ix2 k⟩
  obtain ⟨ha, hb⟩ := (lands idx a r b (g p)).1 hk
  rw [hg] at hb
  rw [ha, one b (Fin.ext (by omega))]

/-- The columns written, read at a column that no index word names: as before. -/
theorem put_miss (x0 : S65536x384.Idx → EReal) (idx : IVec S128x1 32) (upd : S65536x128.Idx → EReal) (g : Fin 128 → Fin 384)
    (hg : ∀ p, (idx (ix2 p (0 : Fin 1))).toInt = ((g p).val : Int)) (r : Fin 65536) (e : Fin 384) (none : ∀ q, g q ≠ e) :
    Host.scatter put (fun _ b => b) x0 idx upd (ix2 r e) = x0 (ix2 r e) := by
  refine Routing.scatter_set_miss put x0 idx upd _ (fun k hk => ?_)
  obtain ⟨a, b, rfl⟩ : ∃ a b, k = ix2 a b := ⟨_, _, eq_ix2 k⟩
  obtain ⟨_, hb⟩ := (lands idx a r b e).1 hk
  rw [hg] at hb
  exact none b (Fin.ext (by omega))

/-- The columns read: column `p` of the result is the column that index word `p` names. -/
theorem get_apply (x : S65536x256.Idx → EReal) (idx : IVec S128x1 32) (r : Fin 65536) (p : Fin 128) (e : Fin 256)
    (he : (idx (ix2 p (0 : Fin 1))).toInt = (e.val : Int)) : Host.gather get x idx (ix2 r p) = x (ix2 r e) := by
  unfold Host.gather
  congr 1
  have hm : (1 : Fin 2) ∈ get.startIndexMap := by decide
  have hsi : get.siIdx (ix2 r p) ⟨get.startIndexMap.idxOf 1, List.idxOf_lt_length_iff.2 hm⟩ = ix2 p (0 : Fin 1) := by
    funext b; refine Fin.ext ?_
    match b with
    | ⟨0, _⟩ => rfl
    | ⟨1, _⟩ => rfl
  funext a
  refine Fin.ext ?_
  show get.start (ix2 r p) idx a + get.batchCoord (ix2 r p) a + get.offCoord (ix2 r p) a = _
  rw [GatherDims.batchCoord_eq_zero _ _ _ List.not_mem_nil]
  match a with
  | ⟨0, _⟩ =>
    have h0 : get.start (ix2 r p) idx (0 : Fin 2) = 0 := by
      unfold GatherDims.start
      rw [dif_neg (by decide)]
    show get.start (ix2 r p) idx (0 : Fin 2) + 0 + get.offCoord (ix2 r p) (0 : Fin 2) = r.val
    rw [h0]
    unfold GatherDims.offCoord
    rw [dif_pos (by decide)]
    show 0 + 0 + r.val = r.val
    omega
  | ⟨1, _⟩ =>
    have h1 : get.offCoord (ix2 r p) (1 : Fin 2) = 0 :=
      GatherDims.offCoord_eq_zero _ _ _ (fun h => ((GatherDims.mem_sKept _ _).mp h).1 (by decide))
    show get.start (ix2 r p) idx (1 : Fin 2) + 0 + get.offCoord (ix2 r p) (1 : Fin 2) = e.val
    rw [h1]
    unfold GatherDims.start
    rw [dif_pos hm, hsi, he]
    show min (Int.toNat (e.val : Int)) (256 - 1) + 0 + 0 = e.val
    have := e.isLt
    omega

/-! ## The index tables -/

/-- A table's index words as the operations print them: a negative one is wrapped by `n`. -/
def wrapped (T : IVec S128 32) (n : BitVec 32) : IVec S128x1 32 :=
  broadcastInDim S128x1 ![0] bcast_S128_S128x1_0
    (select (cmpi .slt T (broadcastInDim S128 ![] bcast_S_S128 (constantI S_ 32 0#32)))
      (addi T (broadcastInDim S128 ![] bcast_S_S128 (constantI S_ 32 n))) T)

/-- A word below `2³¹` is not wrapped. -/
theorem wrapped_apply (T : IVec S128 32) (n : BitVec 32) (p : Fin 128) (k : Nat) (hT : T (ix1 p) = BitVec.ofNat 32 k)
    (hk : k < 384) : (wrapped T n (ix2 p (0 : Fin 1))).toInt = (k : Int) := by
  have hb : wrapped T n (ix2 p (0 : Fin 1))
      = Scalar.select (IntOp.cmpi .slt (T (ix1 p)) 0#32) (IntOp.addi (T (ix1 p)) n) (T (ix1 p)) := by
    refine (broadcastInDim_apply _ _ _ _ (ix1 p) fun a => ?_).trans rfl
    match a with
    | ⟨0, _⟩ => rfl
  rw [hb, hT, Routing.wrap_of_lt _ _ (by rw [BitVec.toNat_ofNat]; omega)]
  exact StableHlo.Predicate.toInt_ofNat_small _ (by omega)

/-- A position of a vector is its coordinate. -/
theorem position (p : Fin 128) : S128.rowMajor (ix1 p) = p := Fin.ext (Shape.rowMajor_val_one (d := ![128]) (ix1 p))

theorem lit0_eq : ∀ p : Fin 128, lit0 p = BitVec.ofNat 32 p.val := by decide
theorem lit1_eq : ∀ p : Fin 128, lit1 p = BitVec.ofNat 32 (2 * p.val) := by decide
theorem lit1_succ : ∀ p : Fin 128, IntOp.addi (lit1 p) 1#32 = BitVec.ofNat 32 (2 * p.val + 1) := by decide
theorem lit2_eq : ∀ p : Fin 128, lit2 p = BitVec.ofNat 32 (p.val + 128) := by decide
theorem lit3_eq : ∀ p : Fin 128, lit3 p = BitVec.ofNat 32 (p.val + 256) := by decide

/-! ## The columns taken -/

/-- The columns of `x` that a table names, as the operations print them: a column out of range would be NaN. -/
def taken (x : S65536x256.Idx → EReal) (T : IVec S128 32) : S65536x128.Idx → EReal :=
  select (broadcastInDim S65536x128 ![1] bcast_S128_S65536x128_1
      (Host.reduce IntOp.andi
        (andi (cmpi .sge (wrapped T 256#32) (broadcastInDim S128x1 ![] bcast_S_S128x1 (constantI S_ 32 0#32)))
          (cmpi .sle (wrapped T 256#32) (broadcastInDim S128x1 ![0, 1] bcast_S1x1_S128x1_0_1
            (broadcastInDim S1x1 ![1] bcast_S1_S1x1_1 (constantI S1 32 255#32)))))
        (constantI S_ 1 1#1) reducesTo_S128x1_S128_d1 h_S_))
    (Host.gather get x (wrapped T 256#32))
    (broadcastInDim S65536x128 ![] bcast_S_S65536x128 (constant (F := Ideal) S_ .f32 0x7FC00000#32))

/-- Every index is in range, so column `p` of those taken is the column that the table names. -/
theorem taken_apply (x : S65536x256.Idx → EReal) (T : IVec S128 32) (g : Fin 128 → Fin 256)
    (hT : ∀ p, T (ix1 p) = BitVec.ofNat 32 (g p).val) (r : Fin 65536) (p : Fin 128) :
    taken x T (ix2 r p) = x (ix2 r (g p)) := by
  have hw : ∀ q, (wrapped T 256#32 (ix2 q (0 : Fin 1))).toInt = ((g q).val : Int) := fun q =>
    wrapped_apply T _ q _ (hT q) (by have := (g q).isLt; omega)
  have mask : ∀ j, Host.reduce IntOp.andi
        (andi (cmpi .sge (wrapped T 256#32) (broadcastInDim S128x1 ![] bcast_S_S128x1 (constantI S_ 32 0#32)))
          (cmpi .sle (wrapped T 256#32) (broadcastInDim S128x1 ![0, 1] bcast_S1x1_S128x1_0_1
            (broadcastInDim S1x1 ![1] bcast_S1_S1x1_1 (constantI S1 32 255#32)))))
        (constantI S_ 1 1#1) reducesTo_S128x1_S128_d1 h_S_ j = 1#1 := fun j => by
    refine Host.reduce_andi_one _ _ _ _ j rfl fun i => ?_
    obtain ⟨q, z, rfl⟩ : ∃ q z, i = ix2 q z := ⟨_, _, eq_ix2 i⟩
    obtain rfl : z = 0 := Subsingleton.elim _ _
    have hq := hw q
    have hl := (g q).isLt
    show IntOp.andi (IntOp.cmpi .sge (wrapped T 256#32 (ix2 q (0 : Fin 1))) 0#32)
      (IntOp.cmpi .sle (wrapped T 256#32 (ix2 q (0 : Fin 1))) 255#32) = 1#1
    have hv : wrapped T 256#32 (ix2 q (0 : Fin 1)) = BitVec.ofNat 32 (g q).val := by
      refine BitVec.eq_of_toInt_eq ?_
      rw [hq, StableHlo.Predicate.toInt_ofNat_small _ (by omega)]
    rw [hv]
    have key : ∀ k : Fin 256, IntOp.andi (IntOp.cmpi .sge (BitVec.ofNat 32 k.val) 0#32)
      (IntOp.cmpi .sle (BitVec.ofNat 32 k.val) 255#32) = 1#1 := by decide
    exact key (g q)
  unfold taken select
  have hb := (broadcastInDim_apply ![1] bcast_S128_S65536x128_1 _ (ix2 r p) (ix1 p) (fun a => match a with | ⟨0, _⟩ => rfl)).trans (mask (ix1 p))
  refine (congrArg (fun b => Scalar.select b _ _) hb).trans ?_
  rw [select_one, get_apply x _ r p (g p) (hw p)]

/-! ## The angle -/

/-- The angle array, as the operations print it. -/
def angle (x : S65536x256.Idx → EReal) : S65536x128.Idx → EReal :=
  mulf (F := Ideal) (φ := .f32) (subf (F := Ideal) (φ := .f32) (taken x (fun i => lit0 (S128.rowMajor i)))
      (broadcastInDim S65536x128 ![] bcast_S_S65536x128 (Host.negf (Host.acos (constant (F := Ideal) S_ .f32 0xBF800000#32)))))
    (broadcastInDim S65536x128 ![] bcast_S_S65536x128
      (Host.divf (mulf (constant (F := Ideal) S_ .f32 0x40000000#32) (Host.acos (constant S_ .f32 0xBF800000#32)))
        (subf (Host.acos (constant S_ .f32 0xBF800000#32)) (Host.negf (Host.acos (constant S_ .f32 0xBF800000#32))))))

/-- The host's arccosine of minus one is `π`. -/
theorem acos_neg_one : Ideal.acos (Ideal.ofBits .f32 0xBF800000#32) = ((Real.pi : ℝ) : EReal) := by
  rw [Proof.Consts.neg_one]
  rw [Ideal.acos_coe, if_pos ⟨le_refl _, by norm_num⟩, Real.arccos_neg_one]

/-- The word of two is two. -/
theorem two : Ideal.ofBits .f32 0x40000000#32 = ((2 : ℝ) : EReal) := by
  simp [Ideal.ofBits, Ideal.ieee, -EReal.coe_mul]; norm_num

/-- The angle at an index: the column plus `π`, for the scale `2π / (π - (-π))` is one. -/
theorem angle_apply (x : S65536x256.Idx → EReal) (r : Fin 65536) (p : Fin 128) :
    angle x (ix2 r p) = x (ix2 r ⟨p.val, by omega⟩) + ((Real.pi : ℝ) : EReal) := by
  show (taken x (fun i => lit0 (S128.rowMajor i)) (ix2 r p) - (-(Ideal.acos (Ideal.ofBits .f32 0xBF800000#32))))
      * Ideal.div (Ideal.ofBits .f32 0x40000000#32 * Ideal.acos (Ideal.ofBits .f32 0xBF800000#32))
        (Ideal.acos (Ideal.ofBits .f32 0xBF800000#32) - (-(Ideal.acos (Ideal.ofBits .f32 0xBF800000#32)))) = _
  have hs : Ideal.div (((2 : ℝ) : EReal) * ((Real.pi : ℝ) : EReal)) (((Real.pi : ℝ) : EReal) - (-((Real.pi : ℝ) : EReal))) = 1 := by
    have h := Real.pi_pos
    have h2 : Real.pi - -Real.pi = 2 * Real.pi := by ring
    rw [← EReal.coe_neg, ← EReal.coe_sub, ← EReal.coe_mul, h2, Ideal.div_coe (by positivity), ← EReal.coe_mul,
      mul_one_div_cancel (by positivity)]
    rfl
  rw [taken_apply x _ (fun q => ⟨q.val, by omega⟩) (fun q => by rw [position]; exact lit0_eq q), acos_neg_one, two, hs, mul_one,
    sub_eq_add_neg, neg_neg]

/-! ## The result -/

/-- What the reference's result holds, of the argument: cosines and sines in turn, then the copied columns. -/
def out (x : S65536x256.Idx → EReal) (i : S65536x384.Idx) : EReal :=
  if h : (i 1).val < 256 then
    if (i 1).val % 2 = 0 then Ideal.cos (x (ix2 (i 0) ⟨(i 1).val / 2, by omega⟩) + ((Real.pi : ℝ) : EReal))
    else Ideal.sin (x (ix2 (i 0) ⟨(i 1).val / 2, by omega⟩) + ((Real.pi : ℝ) : EReal))
  else x (ix2 (i 0) ⟨(i 1).val - 128, by have := idx2_lt1 i; omega⟩)

variable (m : (ℓ : Loc nD τ sig) → Buf (Elt Ideal) ℓ)

/-- The argument's contents on a device. -/
abbrev arg (c : Dev nD) : S65536x256.Idx → EReal := m ((c.tc : Thread nD τ).loc main_arg0)

/-- The printed result: three column writes over an array of zeros. -/
theorem printed (c : Dev nD) : res_main_v36 m c
    = Host.scatter put (fun _ b => b)
        (Host.scatter put (fun _ b => b)
          (Host.scatter put (fun _ b => b) (broadcastInDim S65536x384 ![] bcast_S_S65536x384 (constant (F := Ideal) S_ .f32 0x00000000#32))
            (wrapped (fun i => lit1 (S128.rowMajor i)) 384#32) (Host.cos (F := Ideal) (φ := .f32) (angle (arg m c))))
          (wrapped (addi (fun i => lit1 (S128.rowMajor i)) (broadcastInDim S128 ![] bcast_S_S128 (constantI S_ 32 1#32))) 384#32)
          (Host.sin (F := Ideal) (φ := .f32) (angle (arg m c))))
        (wrapped (fun i => lit3 (S128.rowMajor i)) 384#32) (taken (arg m c) (fun i => lit2 (S128.rowMajor i))) := by
  unfold res_main_v36 angle taken wrapped
  rfl

/-- The reference's result is `out` of its argument. -/
theorem res_eq (c : Dev nD) : res_main_v36 m c = out (arg m c) := by
  rw [printed]
  have g1 : ∀ p : Fin 128, (wrapped (fun i => lit1 (S128.rowMajor i)) 384#32 (ix2 p (0 : Fin 1))).toInt
      = (((⟨2 * p.val, by omega⟩ : Fin 384).val : Nat) : Int) := fun p =>
    wrapped_apply _ _ p _ (by rw [position]; exact lit1_eq p) (by have := p.isLt; show 2 * p.val < 384; omega)
  have g2 : ∀ p : Fin 128, (wrapped (addi (fun i => lit1 (S128.rowMajor i)) (broadcastInDim S128 ![] bcast_S_S128 (constantI S_ 32 1#32))) 384#32 (ix2 p (0 : Fin 1))).toInt
      = (((⟨2 * p.val + 1, by omega⟩ : Fin 384).val : Nat) : Int) := fun p =>
    wrapped_apply _ _ p _ (by show IntOp.addi (lit1 (S128.rowMajor (ix1 p))) 1#32 = _; rw [position]; exact lit1_succ p)
      (by have := p.isLt; show 2 * p.val + 1 < 384; omega)
  have g3 : ∀ p : Fin 128, (wrapped (fun i => lit3 (S128.rowMajor i)) 384#32 (ix2 p (0 : Fin 1))).toInt
      = (((⟨p.val + 256, by omega⟩ : Fin 384).val : Nat) : Int) := fun p =>
    wrapped_apply _ _ p _ (by rw [position]; exact lit3_eq p) (by have := p.isLt; show p.val + 256 < 384; omega)
  funext i
  obtain ⟨r, e, rfl⟩ : ∃ r e, i = ix2 r e := ⟨_, _, eq_ix2 i⟩
  unfold out
  show _ = if h : e.val < 256 then
    if e.val % 2 = 0 then Ideal.cos (arg m c (ix2 r ⟨e.val / 2, by omega⟩) + ((Real.pi : ℝ) : EReal))
    else Ideal.sin (arg m c (ix2 r ⟨e.val / 2, by omega⟩) + ((Real.pi : ℝ) : EReal))
  else arg m c (ix2 r ⟨e.val - 128, by omega⟩)
  by_cases h : e.val < 256
  · rw [dif_pos h, put_miss _ _ _ _ g3 r e (fun q hq => by have := congrArg Fin.val hq; simp only at this; omega)]
    by_cases h2 : e.val % 2 = 0
    · rw [if_pos h2, put_miss _ _ _ _ g2 r e (fun q hq => by have := congrArg Fin.val hq; simp only at this; omega)]
      have key := put_hit (broadcastInDim S65536x384 ![] bcast_S_S65536x384 (constant (F := Ideal) S_ .f32 0x00000000#32)) _
        (Host.cos (F := Ideal) (φ := .f32) (angle (arg m c))) _ g1 r ⟨e.val / 2, by omega⟩
        (fun q hq => Fin.ext (by have h' : 2 * q.val = 2 * (e.val / 2) := congrArg Fin.val hq; show q.val = e.val / 2; omega))
      rw [show (⟨2 * (e.val / 2), by omega⟩ : Fin 384) = e from Fin.ext (by show 2 * (e.val / 2) = e.val; omega)] at key
      exact key.trans (congrArg Ideal.cos (angle_apply (arg m c) r ⟨e.val / 2, by omega⟩))
    · rw [if_neg h2]
      have key := put_hit (Host.scatter put (fun _ b => b) (broadcastInDim S65536x384 ![] bcast_S_S65536x384 (constant (F := Ideal) S_ .f32 0x00000000#32))
          (wrapped (fun i => lit1 (S128.rowMajor i)) 384#32) (Host.cos (F := Ideal) (φ := .f32) (angle (arg m c)))) _
        (Host.sin (F := Ideal) (φ := .f32) (angle (arg m c))) _ g2 r ⟨e.val / 2, by omega⟩
        (fun q hq => Fin.ext (by have h' : 2 * q.val + 1 = 2 * (e.val / 2) + 1 := congrArg Fin.val hq; show q.val = e.val / 2; omega))
      rw [show (⟨2 * (e.val / 2) + 1, by omega⟩ : Fin 384) = e from Fin.ext (by show 2 * (e.val / 2) + 1 = e.val; omega)] at key
      exact key.trans (congrArg Ideal.sin (angle_apply (arg m c) r ⟨e.val / 2, by omega⟩))
  · rw [dif_neg h]
    have key := put_hit (Host.scatter put (fun _ b => b)
          (Host.scatter put (fun _ b => b) (broadcastInDim S65536x384 ![] bcast_S_S65536x384 (constant (F := Ideal) S_ .f32 0x00000000#32))
            (wrapped (fun i => lit1 (S128.rowMajor i)) 384#32) (Host.cos (F := Ideal) (φ := .f32) (angle (arg m c))))
          (wrapped (addi (fun i => lit1 (S128.rowMajor i)) (broadcastInDim S128 ![] bcast_S_S128 (constantI S_ 32 1#32))) 384#32)
          (Host.sin (F := Ideal) (φ := .f32) (angle (arg m c)))) _
        (taken (arg m c) (fun i => lit2 (S128.rowMajor i))) _ g3 r ⟨e.val - 256, by omega⟩
        (fun q hq => Fin.ext (by have h' : q.val + 256 = e.val - 256 + 256 := congrArg Fin.val hq; show q.val = e.val - 256; omega))
    rw [show (⟨e.val - 256 + 256, by omega⟩ : Fin 384) = e from Fin.ext (by show e.val - 256 + 256 = e.val; omega)] at key
    refine key.trans ((taken_apply (arg m c) _ (fun q => ⟨q.val + 128, by omega⟩) (fun q => by rw [position]; exact lit2_eq q) r _).trans ?_)
    exact congrArg (arg m c) (congrArg (ix2 r) (Fin.ext (by show e.val - 256 + 128 = e.val - 128; omega)))

end Cert.ReferenceIdeal.Columns

end
-- ==== Proof.Claims.lean ====
/- The equations between the kernels and the reference: the first version's whole result, and the columns that the fast
   version copies. -/
module

public import proofs.«01_k».proof.Defs
public import proofs.«01_k».proof.Proof.CosBlocks
public import proofs.«01_k».proof.Proof.FastBlocks
public import proofs.«01_k».proof.Proof.RefColumns
public import proofs.«01_k».proof.Proof.Gen.On_copied

@[expose] public section

noncomputable section

open Idealize.ShloMosaic Idealize.ShloMosaic.TcCoe Idealize.SL.Sem Idealize.ShloMosaic.ValueIdx

namespace Cert.Proof

/-- A cosine a quarter turn on is the sine half a turn on, over all extended reals: at an infinity both are the junk
    value. -/
theorem cos_add_half_pi (x : EReal) :
    Ideal.cos (x + (((1 / 2) * Real.pi : ℝ) : EReal)) = Ideal.sin (x + ((Real.pi : ℝ) : EReal)) := by
  induction x using EReal.rec with
  | bot => rfl
  | top => rfl
  | coe a =>
    rw [← EReal.coe_add, ← EReal.coe_add]
    show ((Real.cos (a + 1 / 2 * Real.pi) : ℝ) : EReal) = ((Real.sin (a + Real.pi) : ℝ) : EReal)
    rw [show a + 1 / 2 * Real.pi = a + Real.pi / 2 by ring, Real.cos_add_pi_div_two, Real.sin_add_pi]

/-- The first version's array is the reference's, of the same argument. -/
theorem cos_out_eq (x : (⟨2, ![65536, 256]⟩ : Shape).Idx → EReal) :
    Cert.KernelCosIdeal.Blocks.out x = Cert.ReferenceIdeal.Columns.out x := by
  funext i
  unfold Cert.KernelCosIdeal.Blocks.out Cert.ReferenceIdeal.Columns.out Cert.KernelCosIdeal.Blocks.phase
  by_cases h : (i 1).val < 256
  · rw [dif_pos h, dif_pos h]
    by_cases h2 : (i 1).val % 2 = 0
    · rw [if_pos h2, if_pos h2]
    · rw [if_neg h2, if_neg h2]
      exact cos_add_half_pi _
  · rw [dif_neg h, dif_neg h]

/-- The first version and the reference end with equal results. -/
theorem cos_algebraic : Cert.algebraic_KernelCosIdeal_ReferenceIdeal := by
  intro m ρ m' ρ' _ agree
  refine ⟨fun c => Cert.KernelCosIdeal.Blocks.out (Cert.KernelCosIdeal.Blocks.arg m c), Cert.KernelCosIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Columns.res_eq m' c).trans ?_
  rw [show Cert.ReferenceIdeal.Columns.arg m' c = Cert.KernelCosIdeal.Blocks.arg m c from agree c]
  exact (cos_out_eq _).symm

/-- The mask selects the columns from 256 on. -/
theorem copied_iff (x : (⟨2, ![65536, 256]⟩ : Shape).Idx → EReal) (i : (⟨2, ![65536, 384]⟩ : Shape).Idx) :
    Cert.On_copied.fn (F := Ideal) x i = 1#1 ↔ 256 ≤ (i 1).val := by
  have key : ∀ r < 384, IntOp.cmpi .sge (BitVec.ofNat 32 r) 256#32 = 1#1 ↔ 256 ≤ r := by decide
  show IntOp.cmpi .sge (BitVec.ofNat 32 (i 1).val) 256#32 = 1#1 ↔ _
  exact key _ (i 1).isLt

/-- From column 256 on the fast version's array is the reference's. -/
theorem fast_out_eq (x : (⟨2, ![65536, 256]⟩ : Shape).Idx → EReal) (i : (⟨2, ![65536, 384]⟩ : Shape).Idx) (h : 256 ≤ (i 1).val) :
    Cert.ReferenceIdeal.Columns.out x i = Cert.KernelIdeal.Blocks.out x i := by
  unfold Cert.KernelIdeal.Blocks.out Cert.ReferenceIdeal.Columns.out
  rw [dif_neg (by omega), dif_neg (by omega)]

/-- The fast version and the reference agree on the copied columns. -/
theorem fast_algebraic_on_copied : Cert.algebraic_KernelIdeal_ReferenceIdeal_on_copied := by
  intro m ρ m' ρ' _ agree
  refine ⟨fun c => Cert.KernelIdeal.Blocks.out (Cert.KernelIdeal.Blocks.arg m c), ?_, ?_⟩
  · exact (θ_run Cert.KernelIdeal.defs _ _).mono (fun _ h c => ⟨fun i _ => congrFun (h c).1 i, (h c).2⟩)
      (Cert.KernelIdeal.Blocks.run m ρ)
  · refine (θ_run Cert.ReferenceIdeal.defs _ _).mono (fun _ h c => ⟨fun i hi => ?_, (h c).2⟩)
      (Cert.ReferenceIdeal.Value.run (F := Ideal) m' ρ')
    refine (congrFun ((h c).1.trans (Cert.ReferenceIdeal.Columns.res_eq m' c)) i).trans ?_
    rw [show Cert.ReferenceIdeal.Columns.arg m' c = Cert.KernelIdeal.Blocks.arg m c from agree c]
    exact fast_out_eq _ i ((copied_iff _ i).1 hi)

end Cert.Proof

end
-- ==== Proof.Cosine.lean ====
/- The distance of the fast version's polynomial from the cosine, over the reals: on an interval a little wider than
   `[-π, π]` the polynomial of `r²` is within `1.44e-6` of `cos r`. The cosine's Taylor sum stands between the two; the
   difference of the two polynomials is bounded on forty intervals by its shifted coefficients. -/
module

public import Mathlib.Analysis.SpecialFunctions.Trigonometric.Basic
public import Mathlib.Analysis.Complex.Exponential
public import Mathlib.Tactic.Linarith
public import Mathlib.Tactic.Positivity
public import Mathlib.Tactic.GCongr
public import Mathlib.Tactic.NormNum
public import Mathlib.Tactic.Ring

@[expose] public section

noncomputable section

namespace Cert.Proof.Cosine

/-! ## Polynomials as lists of rational coefficients, the constant one first -/

/-- The value of a polynomial at a real. -/
def value : List ℚ → ℝ → ℝ
  | [], _ => 0
  | a :: l, x => (a : ℝ) + x * value l x

/-- The coefficients of `a + (c + s) q(s)` in `s`. -/
def push : ℚ → ℚ → List ℚ → List ℚ
  | a, _, [] => [a]
  | a, c, b :: q => (a + c * b) :: push b c q

/-- The coefficients of `l(c + s)` in `s`. -/
def shift (c : ℚ) : List ℚ → List ℚ
  | [] => []
  | a :: l => push a c (shift c l)

/-- The sum of the coefficients' sizes times the powers of `h`. -/
def size (h : ℚ) : List ℚ → ℚ
  | [] => 0
  | a :: l => |a| + h * size h l

theorem value_push (c : ℚ) (s : ℝ) : ∀ (q : List ℚ) (a : ℚ), value (push a c q) s = a + (c + s) * value q s
  | [], a => by simp [push, value]
  | b :: q, a => by
    simp only [push, value, value_push c s q b]
    push_cast
    ring

theorem value_shift (c : ℚ) (s : ℝ) : ∀ l : List ℚ, value (shift c l) s = value l (c + s)
  | [] => rfl
  | a :: l => by simp only [shift, value, value_push, value_shift c s l]

theorem abs_value_le (h : ℚ) (s : ℝ) (hs : |s| ≤ h) : ∀ l : List ℚ, |value l s| ≤ (size h l : ℝ)
  | [] => by simp [value, size]
  | a :: l => by
    have ih := abs_value_le h s hs l
    simp only [value, size]
    push_cast
    refine (abs_add_le _ _).trans (add_le_add le_rfl ?_)
    rw [abs_mul]
    exact mul_le_mul hs ih (abs_nonneg _) ((abs_nonneg s).trans hs)

/-- A polynomial whose shifted coefficients are small around the middles of `n` intervals of half width `h` is small
    from zero to their end. -/
theorem abs_value_le_of_intervals (l : List ℚ) (h e : ℚ) (hh : 0 < h) (n : Nat)
    (small : ∀ i < n, size h (shift ((2 * i + 1) * h) l) ≤ e) (u : ℝ) (h0 : 0 ≤ u) (hu : u < 2 * h * n) :
    |value l u| ≤ (e : ℝ) := by
  have hr : (0 : ℝ) < h := by exact_mod_cast hh
  have hi0 : 0 ≤ u / (2 * h) := by positivity
  have hlt : ⌊u / (2 * h)⌋₊ < n := by
    rw [Nat.floor_lt hi0, div_lt_iff₀ (by positivity)]
    linarith
  have hlo : (⌊u / (2 * h)⌋₊ : ℝ) * (2 * h) ≤ u := (le_div_iff₀ (by positivity)).1 (Nat.floor_le hi0)
  have hhi : u < ((⌊u / (2 * h)⌋₊ : ℝ) + 1) * (2 * h) := (div_lt_iff₀ (by positivity)).1 (Nat.lt_floor_add_one _)
  generalize ⌊u / (2 * h)⌋₊ = i at hlt hlo hhi
  have key := abs_value_le h (u - (((2 * i + 1) * h : ℚ) : ℝ))
    (by push_cast; rw [abs_le]; constructor <;> linarith) (shift ((2 * i + 1) * h) l)
  rw [value_shift, add_sub_cancel] at key
  refine key.trans ?_
  exact_mod_cast small i hlt

/-! ## The cosine's Taylor sum -/

/-- Ten terms of the cosine's series, in `u = r²`. -/
def taylor (u : ℝ) : ℝ :=
  1 - u / 2 + u ^ 2 / 24 - u ^ 3 / 720 + u ^ 4 / 40320 - u ^ 5 / 3628800 + u ^ 6 / 479001600 - u ^ 7 / 87178291200
    + u ^ 8 / 20922789888000 - u ^ 9 / 6402373705728000

/-- The cosine is near its Taylor sum. -/
theorem cos_near_taylor (r b : ℝ) (hr : |r| ≤ b) (hb10 : b ≤ 10) :
    |Real.cos r - taylor (r ^ 2)| ≤ b ^ 20 / 2432902008176640000 * 2 := by
  have hn : ‖(r : ℂ) * Complex.I‖ = |r| := by simp
  have hb := Complex.exp_bound' (x := (r : ℂ) * Complex.I) (n := 20)
    (by rw [hn, div_le_iff₀ (by positivity)]; push_cast; linarith)
  have hre : (Complex.exp ((r : ℂ) * Complex.I) - ∑ m ∈ Finset.range 20, ((r : ℂ) * Complex.I) ^ m / (m.factorial : ℂ)).re
      = Real.cos r - taylor (r ^ 2) := by
    rw [Complex.sub_re, Complex.exp_ofReal_mul_I_re]
    congr 1
    have hI : ∀ k : Nat, Complex.I ^ (k + 2) = -Complex.I ^ k := fun k => by rw [pow_add, Complex.I_sq]; ring
    have term : ∀ (k m : Nat), (((r : ℂ) * Complex.I) ^ k / (m : ℂ)).re = r ^ k / m * (Complex.I ^ k).re := fun k m => by
      rw [mul_pow, ← Complex.ofReal_pow, ← Complex.ofReal_natCast, mul_div_right_comm, ← Complex.ofReal_div, Complex.re_ofReal_mul]
    simp only [Finset.sum_range_succ, Finset.sum_range_zero, Complex.add_re, term, hI, Complex.neg_re, pow_zero, pow_one, Complex.one_re,
      Complex.I_re, Complex.zero_re]
    unfold taylor
    norm_num [Nat.factorial]
    ring
  rw [hn] at hb
  have habs := (Complex.abs_re_le_norm _).trans hb
  rw [hre] at habs
  refine habs.trans ?_
  have hp : |r| ^ 20 ≤ b ^ 20 := pow_le_pow_left₀ (abs_nonneg _) hr 20
  rw [show (((Nat.factorial 20 : ℕ) : ℝ)) = 2432902008176640000 by norm_num [Nat.factorial]]
  gcongr

/-! ## Small angles -/

/-- The sine of a small angle is at least half of it in size. -/
theorem half_le_abs_sin (d : ℝ) (hd : |d| ≤ 1) : |d| / 2 ≤ |Real.sin d| := by
  have h := Real.sin_bound hd
  have h0 := abs_nonneg d
  have e : |d - d ^ 3 / 6| = |d| * (1 - |d| ^ 2 / 6) := by
    rw [show d - d ^ 3 / 6 = d * (1 - d ^ 2 / 6) by ring, abs_mul, sq_abs, abs_of_nonneg (a := 1 - d ^ 2 / 6)]
    nlinarith [sq_abs d]
  have t := abs_sub_abs_le_abs_sub (d - d ^ 3 / 6) (Real.sin d)
  rw [abs_sub_comm (d - d ^ 3 / 6), e] at t
  nlinarith [mul_nonneg h0 h0, pow_le_one₀ (n := 2) h0 hd, pow_le_one₀ (n := 3) h0 hd]

/-- The sine of a small angle is little larger than the angle. -/
theorem abs_sin_le (d : ℝ) (hd : |d| ≤ 1) : |Real.sin d| ≤ 11 / 10 * |d| := by
  have h := Real.sin_bound hd
  have h0 := abs_nonneg d
  have e : |d - d ^ 3 / 6| = |d| * (1 - |d| ^ 2 / 6) := by
    rw [show d - d ^ 3 / 6 = d * (1 - d ^ 2 / 6) by ring, abs_mul, sq_abs, abs_of_nonneg (a := 1 - d ^ 2 / 6)]
    nlinarith [sq_abs d]
  have t := abs_sub_abs_le_abs_sub (Real.sin d) (d - d ^ 3 / 6)
  rw [e] at t
  nlinarith [mul_nonneg h0 h0, pow_le_one₀ (n := 2) h0 hd, pow_le_one₀ (n := 3) h0 hd]

/-- Cosines of near angles are near. -/
theorem abs_cos_sub_cos_le (x y : ℝ) (h : |x - y| ≤ 1) : |Real.cos x - Real.cos y| ≤ 11 / 10 * |x - y| := by
  have hh : |(x - y) / 2| = |x - y| / 2 := by rw [abs_div, abs_of_pos (by norm_num : (0 : ℝ) < 2)]
  have s := abs_sin_le ((x - y) / 2) (by rw [hh]; linarith [abs_nonneg (x - y)])
  rw [hh] at s
  rw [Real.cos_sub_cos, abs_mul, abs_mul, show |(-2 : ℝ)| = 2 by norm_num]
  have o := Real.abs_sin_le_one ((x + y) / 2)
  nlinarith [abs_nonneg (Real.sin ((x - y) / 2))]

/-! ## `π` -/

/-- Fourteen decimals of `π`. -/
theorem pi_near : |Real.pi - 314159265358979 / 100000000000000| ≤ 1 / 1000000000000 := by
  have h1 := cos_near_taylor (314159265358979 / 200000000000000) (8 / 5) (by rw [abs_of_nonneg] <;> norm_num) (by norm_num)
  have h2 : |taylor ((314159265358979 / 200000000000000) ^ 2)| ≤ 1 / 100000000000000 := by
    unfold taylor; rw [abs_le]; constructor <;> norm_num
  have hc : |Real.cos (314159265358979 / 200000000000000)| ≤ 1 / 4000000000000 := by
    have h0 : (8 / 5 : ℝ) ^ 20 / 2432902008176640000 * 2 ≤ 1 / 10000000000000 := by norm_num
    rw [abs_le] at h1 h2 ⊢
    constructor <;> linarith [h1.1, h1.2, h2.1, h2.2]
  have lo := Real.two_le_pi
  have hi := Real.pi_le_four
  have hs : Real.cos (314159265358979 / 200000000000000) = Real.sin (Real.pi / 2 - 314159265358979 / 200000000000000) :=
    (Real.sin_pi_div_two_sub _).symm
  rw [hs] at hc
  have half : |Real.pi / 2 - 314159265358979 / 200000000000000| ≤ 1 := by
    rw [abs_le]; constructor <;> linarith
  have step := (half_le_abs_sin _ half).trans hc
  rw [show Real.pi - 314159265358979 / 100000000000000 = 2 * (Real.pi / 2 - 314159265358979 / 200000000000000) by ring,
    abs_mul, abs_of_pos (by norm_num : (0 : ℝ) < 2)]
  linarith

/-! ## The kernel's polynomial -/

/-- The kernel's polynomial over the reals, its coefficients the exact values of the float words. -/
def poly (u : ℝ) : ℝ :=
  ((((-(7787049 / 35184372088832) * u + 13326099 / 549755813888) * u + -(5953591 / 4294967296)) * u
    + 11183223 / 268435456) * u + -(8388529 / 16777216)) * u + 8388603 / 8388608

/-- The coefficients of the polynomial less the Taylor sum. -/
def difference : List ℚ :=
  [8388603 / 8388608 - 1, -(8388529 / 16777216) + 1 / 2, 11183223 / 268435456 - 1 / 24, -(5953591 / 4294967296) + 1 / 720,
    13326099 / 549755813888 - 1 / 40320, -(7787049 / 35184372088832) + 1 / 3628800, -(1 / 479001600), 1 / 87178291200,
    -(1 / 20922789888000), 1 / 6402373705728000]

theorem value_difference (u : ℝ) : value difference u = poly u - taylor u := by
  unfold difference poly taylor
  simp only [value]
  push_cast
  ring

/-- On each of the forty intervals the shifted coefficients are small. -/
theorem difference_small : ∀ i < 40, size (309 / 2500) (shift ((2 * (i : Nat) + 1) * (309 / 2500)) difference) ≤ 143 / 100000000 := by
  decide +kernel

/-- The kernel's polynomial is near the cosine. -/
theorem poly_near_cos (r : ℝ) (hr : |r| ≤ 6289 / 2000) : |poly (r * r) - Real.cos r| ≤ 144 / 100000000 := by
  have h1 := cos_near_taylor r _ hr (by norm_num)
  norm_num at h1
  have hu : r ^ 2 ≤ (6289 / 2000 : ℝ) ^ 2 := by rw [← sq_abs]; exact pow_le_pow_left₀ (abs_nonneg _) hr 2
  have h2 := abs_value_le_of_intervals difference (309 / 2500) (143 / 100000000) (by norm_num) 40 difference_small (r ^ 2)
    (sq_nonneg r) (by push_cast; norm_num at hu ⊢; linarith)
  rw [value_difference] at h2
  push_cast at h2
  rw [← sq]
  rw [abs_le] at h1 h2 ⊢
  constructor <;> linarith [h1.1, h1.2, h2.1, h2.2]

/-! ## Taking out whole turns -/

/-- The reduced angle, over the reals: `k` turns taken out of `t`, a turn being the sum of two float words. -/
def reduced (t k : ℝ) : ℝ := (t - k * (201 / 32)) - k * (8312081 / 4294967296)

/-- Turns taken out of an angle near `a + φ`, the polynomial is near its cosine. -/
theorem poly_reduced_near (a q φ : ℝ) (k : ℤ) (ha : |a| ≤ 65536) (hq : |q - φ| ≤ 875 / 10000000000) (hφ : |φ| ≤ 22 / 7)
    (hk : |(a + q) * (10680707 / 67108864) - k| ≤ 1 / 2) :
    |poly (reduced (a + q) k * reduced (a + q) k) - Real.cos (a + φ)| ≤ 8796093 / 4398046511104 := by
  have hp := pi_near
  rw [abs_le] at ha hq hφ hk hp
  have hkk : |(k : ℝ)| ≤ 10432 := by rw [abs_le]; constructor <;> linarith
  have hturn : |2 * Real.pi - 201 / 32 - 8312081 / 4294967296| ≤ 13 / 1000000000000 := by
    rw [abs_le]; constructor <;> linarith
  have hprod : |(k : ℝ) * (2 * Real.pi - 201 / 32 - 8312081 / 4294967296)| ≤ 10432 * (13 / 1000000000000) := by
    rw [abs_mul]; exact mul_le_mul hkk hturn (abs_nonneg _) (by norm_num)
  have hr : |reduced (a + q) k| ≤ 6289 / 2000 := by
    rw [abs_le] at hkk
    unfold reduced
    rw [abs_le]; constructor <;> linarith
  have h1 := poly_near_cos _ hr
  have hd : |reduced (a + q) k - (a + φ - k * (2 * Real.pi))| ≤ 224 / 1000000000 := by
    rw [show reduced (a + q) k - (a + φ - k * (2 * Real.pi))
      = (q - φ) + k * (2 * Real.pi - 201 / 32 - 8312081 / 4294967296) by unfold reduced; ring]
    rw [abs_le] at hprod
    rw [abs_le]; constructor <;> linarith
  have h2 := (abs_cos_sub_cos_le _ _ (hd.trans (by norm_num))).trans (mul_le_mul_of_nonneg_left hd (by norm_num))
  rw [Real.cos_sub_int_mul_two_pi] at h2
  rw [abs_le] at h1 h2 ⊢
  constructor <;> linarith

end Cert.Proof.Cosine

end
-- ==== Proof.Within.lean ====
/- The third version's distance from the cosine: its result array satisfies the predicate `within` of the statement, its
   polynomial of the reduced angle being the real one of Cosine.lean wherever the argument is at most 65536 in size. -/
module

public import proofs.«01_k».proof.Defs
public import Idealize.ShloMosaic.Lib.Decide
public import proofs.«01_k».proof.Proof.FastBlocks
public import proofs.«01_k».proof.Proof.RefColumns
public import proofs.«01_k».proof.Proof.Claims
public import proofs.«01_k».proof.Proof.Cosine

@[expose] public section

set_option maxRecDepth 16384

noncomputable section

open Idealize.ShloMosaic Idealize.ShloMosaic.TcCoe Idealize.SL.Sem Idealize.ShloMosaic.ValueIdx

namespace Cert.Proof

namespace Within

open Cert.KernelIdeal.Blocks

/-! ## The predicate's shape relations -/

/-- The shape relations the predicate's operations take. -/
instance facts : Cert.Post_within.Facts where
  slices_S65536x256_S65536x128_0_0 := by decide
  bcast_S_S65536x128 := by decide
  slicesBy_S65536x384_S65536x128_0s1_0s2 := by decide
  slicesBy_S65536x384_S65536x128_0s1_1s2 := by decide
  slices_S65536x384_S65536x128_0_256 := by decide
  slices_S65536x256_S65536x128_0_128 := by decide
  concatenates_S65536x128_S65536x128_S65536x128_S65536x384_d1 := by decide

/-! ## The polynomial of a real -/

/-- Rounding to the nearest integer moves a real by at most a half. -/
theorem abs_sub_round_le (r : ℝ) : |r - Ideal.roundHalfEven r| ≤ 1 / 2 := by
  have h0 := Int.floor_le r
  have h1 := Int.lt_floor_add_one r
  unfold Ideal.roundHalfEven
  rw [abs_le]
  dsimp only
  split_ifs <;> push_cast <;> constructor <;> linarith

/-- The kernel's value at a real angle is the real polynomial of the really reduced angle. -/
theorem fast_coe (t : ℝ) : fast (t : EReal)
    = ((Cosine.poly (Cosine.reduced t (Ideal.roundHalfEven (t * (10680707 / 67108864)))
        * Cosine.reduced t (Ideal.roundHalfEven (t * (10680707 / 67108864)))) : ℝ) : EReal) := by
  unfold fast poly reduced turns Cosine.poly Cosine.reduced
  rw [Consts.inv_two_pi, Consts.two_pi_hi, Consts.two_pi_lo, Consts.c0, Consts.c1, Consts.c2, Consts.c3, Consts.c4, Consts.c5,
    ← EReal.coe_mul, Ideal.liftRound_coe]
  simp only [← EReal.coe_mul, ← EReal.coe_sub, ← EReal.coe_add]

/-- The kernel's value at `a + q` is near the cosine of `a + φ`, `q` the word of `φ`. -/
theorem fast_near (a q φ : ℝ) (ha : |a| ≤ 65536) (hq : |q - φ| ≤ 875 / 10000000000) (hφ : |φ| ≤ 22 / 7) :
    ∃ v : ℝ, fast ((a : EReal) + (q : EReal)) = (v : EReal) ∧ |v - Real.cos (a + φ)| ≤ 8796093 / 4398046511104 :=
  ⟨_, by rw [← EReal.coe_add, fast_coe], Cosine.poly_reduced_near a q φ _ ha hq hφ (abs_sub_round_le _)⟩

/-! ## The predicate's bit -/

/-- The predicate's bit on the computed columns: the argument is large, or the distance small. -/
theorem bit_near (x c : EReal) (q φ : ℝ) (hq : |q - φ| ≤ 875 / 10000000000) (hφ : |φ| ≤ 22 / 7)
    (hc : ∀ a : ℝ, x = (a : EReal) → c = ((Real.cos (a + φ) : ℝ) : EReal)) :
    IntOp.ori (Ideal.cmp .ogt (max x (-x)) (Ideal.ofBits .f32 0x47800000#32))
      (Ideal.cmp .ole (max (fast (x + (q : EReal)) - c) (-(fast (x + (q : EReal)) - c))) (Ideal.ofBits .f32 0x360637BD#32)) = 1#1 := by
  have far : ∀ b : BitVec 1, (Ideal.ofBits .f32 0x47800000#32) < max x (-x) →
      IntOp.ori (Ideal.cmp .ogt (max x (-x)) (Ideal.ofBits .f32 0x47800000#32)) b = 1#1 := by
    intro b h
    have e : Ideal.cmp .ogt (max x (-x)) (Ideal.ofBits .f32 0x47800000#32) = 1#1 := by simp [Ideal.cmp, h]
    rw [e]
    revert b
    decide
  have close : ∀ b : BitVec 1, IntOp.ori b 1#1 = 1#1 := by decide
  rw [Consts.large] at far ⊢
  induction x with
  | bot => exact far _ (by simp)
  | top => exact far _ (by simp)
  | coe a =>
    by_cases ha : |a| ≤ 65536
    · obtain ⟨v, hv, hd⟩ := fast_near a q φ ha hq hφ
      have e : Ideal.cmp .ole (max (fast ((a : EReal) + (q : EReal)) - c) (-(fast ((a : EReal) + (q : EReal)) - c)))
          (Ideal.ofBits .f32 0x360637BD#32) = 1#1 := by
        rw [hv, hc a rfl, Consts.error, ← EReal.coe_sub, ← EReal.coe_neg, ← EReal.coe_strictMono.monotone.map_max]
        have : max (v - Real.cos (a + φ)) (-(v - Real.cos (a + φ))) ≤ 8796093 / 4398046511104 := hd
        simp only [Ideal.cmp, EReal.coe_le_coe_iff, this, decide_true]
        rfl
      rw [e]
      exact close _
    · refine far _ ?_
      rw [← EReal.coe_neg, ← EReal.coe_strictMono.monotone.map_max, EReal.coe_lt_coe_iff]
      exact not_le.1 ha

/-! ## The predicate of the result array -/

/-- The kernel's `π` is near `π`. -/
theorem pi32_near : |(13176795 / 4194304 : ℝ) - Real.pi| ≤ 875 / 10000000000 := by
  have h := Cosine.pi_near
  rw [abs_le] at h ⊢
  constructor <;> linarith

/-- The kernel's `π/2` is near `π/2`. -/
theorem half_pi32_near : |(13176795 / 8388608 : ℝ) - 1 / 2 * Real.pi| ≤ 875 / 10000000000 := by
  have h := Cosine.pi_near
  rw [abs_le] at h ⊢
  constructor <;> linarith

/-- `π` is at most 22/7. -/
theorem abs_pi_le : |Real.pi| ≤ 22 / 7 := by
  have h := Cosine.pi_near
  rw [abs_le] at h ⊢
  constructor <;> linarith

/-- So is its half. -/
theorem abs_half_pi_le : |1 / 2 * Real.pi| ≤ 22 / 7 := by
  have h := Cosine.pi_near
  rw [abs_le] at h ⊢
  constructor <;> linarith

/-- The predicate's bit on an even column. -/
theorem bit_even (x : EReal) :
    IntOp.ori (Ideal.cmp .ogt (max x (-x)) (Ideal.ofBits .f32 0x47800000#32))
      (Ideal.cmp .ole (max (fast (x + Ideal.ofBits .f32 0x40490FDB#32) - Ideal.cos (x + Ideal.acos (Ideal.ofBits .f32 0xBF800000#32)))
        (-(fast (x + Ideal.ofBits .f32 0x40490FDB#32) - Ideal.cos (x + Ideal.acos (Ideal.ofBits .f32 0xBF800000#32)))))
        (Ideal.ofBits .f32 0x360637BD#32)) = 1#1 := by
  rw [Consts.pi32, Cert.ReferenceIdeal.Columns.acos_neg_one]
  refine bit_near x _ _ Real.pi pi32_near abs_pi_le fun a ha => ?_
  rw [ha, ← EReal.coe_add, Ideal.cos_coe]

/-- The predicate's bit on an odd column. -/
theorem bit_odd (x : EReal) :
    IntOp.ori (Ideal.cmp .ogt (max x (-x)) (Ideal.ofBits .f32 0x47800000#32))
      (Ideal.cmp .ole (max (fast (x + Ideal.ofBits .f32 0x3FC90FDB#32) - Ideal.sin (x + Ideal.acos (Ideal.ofBits .f32 0xBF800000#32)))
        (-(fast (x + Ideal.ofBits .f32 0x3FC90FDB#32) - Ideal.sin (x + Ideal.acos (Ideal.ofBits .f32 0xBF800000#32)))))
        (Ideal.ofBits .f32 0x360637BD#32)) = 1#1 := by
  rw [Consts.half_pi32, Cert.ReferenceIdeal.Columns.acos_neg_one, ← cos_add_half_pi]
  refine bit_near x _ _ (1 / 2 * Real.pi) half_pi32_near abs_half_pi_le fun a ha => ?_
  rw [ha, ← EReal.coe_add, Ideal.cos_coe]

/-- The result array at an even column. -/
theorem out_even (x : Cert.KernelIdeal.S65536x256.Idx → EReal) (a : Fin 65536) (j : Fin 128) (b : Fin 384) (hb : b.val = 2 * j.val) :
    out x (ix2 a b) = fast (x (ix2 a ⟨j.val, by omega⟩) + Ideal.ofBits .f32 0x40490FDB#32) := by
  have h : b.val < 256 := by omega
  unfold out
  rw [dif_pos (show ((ix2 a b : Cert.KernelIdeal.S65536x384.Idx) 1).val < 256 from h)]
  have e : (⟨b.val / 2, by omega⟩ : Fin 256) = ⟨j.val, by omega⟩ := Fin.ext (by show b.val / 2 = j.val; omega)
  have p : phase b.val = Ideal.ofBits .f32 0x40490FDB#32 := if_pos (by omega)
  show fast (x (ix2 a (⟨b.val / 2, _⟩ : Fin 256)) + phase b.val) = _
  rw [e, p]

/-- The result array at an odd column. -/
theorem out_odd (x : Cert.KernelIdeal.S65536x256.Idx → EReal) (a : Fin 65536) (j : Fin 128) (b : Fin 384)
    (hb : b.val = 2 * j.val + 1) :
    out x (ix2 a b) = fast (x (ix2 a ⟨j.val, by omega⟩) + Ideal.ofBits .f32 0x3FC90FDB#32) := by
  have h : b.val < 256 := by omega
  unfold out
  rw [dif_pos (show ((ix2 a b : Cert.KernelIdeal.S65536x384.Idx) 1).val < 256 from h)]
  have e : (⟨b.val / 2, by omega⟩ : Fin 256) = ⟨j.val, by omega⟩ := Fin.ext (by show b.val / 2 = j.val; omega)
  have p : phase b.val = Ideal.ofBits .f32 0x3FC90FDB#32 := if_neg (by omega)
  show fast (x (ix2 a (⟨b.val / 2, _⟩ : Fin 256)) + phase b.val) = _
  rw [e, p]

/-- The result array at a copied column. -/
theorem out_copied (x : Cert.KernelIdeal.S65536x256.Idx → EReal) (a : Fin 65536) (j : Fin 128) (b : Fin 384)
    (hb : b.val = 256 + j.val) :
    out x (ix2 a b) = x (ix2 a ⟨128 + j.val, by omega⟩) := by
  unfold out
  rw [dif_neg (show ¬((ix2 a b : Cert.KernelIdeal.S65536x384.Idx) 1).val < 256 from by show ¬b.val < 256; omega)]
  have e : (⟨b.val - 128, by omega⟩ : Fin 256) = ⟨128 + j.val, by omega⟩ := Fin.ext (by show b.val - 128 = 128 + j.val; omega)
  show x (ix2 a (⟨b.val - 128, _⟩ : Fin 256)) = _
  rw [e]

/-- Three pieces of 128 columns laid side by side are all ones when each piece is. -/
theorem laid_ones (p q r : Cert.Post_within.S65536x128.Idx → BitVec 1) (hp : ∀ i, p i = 1#1) (hq : ∀ i, q i = 1#1) (hr : ∀ i, r i = 1#1) :
    concatenate Cert.Post_within.S65536x384 1
      [⟨Cert.Post_within.S65536x128, p⟩, ⟨Cert.Post_within.S65536x128, q⟩, ⟨Cert.Post_within.S65536x128, r⟩]
      Cert.Post_within.Facts.concatenates_S65536x128_S65536x128_S65536x128_S65536x384_d1 = fun _ => 1#1 := by
  funext i
  have hb : (i 1).val < 384 := (i 1).isLt
  by_cases h1 : (i 1).val < 128
  · refine (concatenate_apply_piece 1 _ _ i 0 (by simp) Cert.Post_within.S65536x128 p rfl rfl 0 rfl
      (ix2 (i 0) ⟨(i 1).val, h1⟩) ?_ ?_).trans (hp _)
    · intro d hd; fin_cases d
      · rfl
      · exact absurd rfl hd
    · show 0 + (i 1).val = (i 1).val; omega
  · by_cases h2 : (i 1).val < 256
    · refine (concatenate_apply_piece 1 _ _ i 1 (by simp) Cert.Post_within.S65536x128 q rfl rfl 128 rfl
        (ix2 (i 0) ⟨(i 1).val - 128, by omega⟩) ?_ ?_).trans (hq _)
      · intro d hd; fin_cases d
        · rfl
        · exact absurd rfl hd
      · show 128 + ((i 1).val - 128) = (i 1).val; omega
    · refine (concatenate_apply_piece 1 _ _ i 2 (by simp) Cert.Post_within.S65536x128 r rfl rfl 256 rfl
        (ix2 (i 0) ⟨(i 1).val - 256, by omega⟩) ?_ ?_).trans (hr _)
      · intro d hd; fin_cases d
        · rfl
        · exact absurd rfl hd
      · show 256 + ((i 1).val - 256) = (i 1).val; omega

/-- The predicate holds of the argument array and the result array. -/
theorem post (x : Cert.KernelIdeal.S65536x256.Idx → EReal) :
    Cert.Post_within.fn (F := Ideal) x (out x) = fun _ => 1#1 := by
  have first : ∀ (a : Fin 65536) (j : Fin 128), extractStridedSlice Cert.Post_within.S65536x128 ![0, 0] x
      Cert.Post_within.Facts.slices_S65536x256_S65536x128_0_0 (ix2 a j) = x (ix2 a ⟨j.val, by omega⟩) := fun a j => by
    refine extractStridedSlice_apply _ _ _ _ _ fun d => ?_
    fin_cases d <;> simp
  have second : ∀ (a : Fin 65536) (j : Fin 128), extractStridedSlice Cert.Post_within.S65536x128 ![0, 128] x
      Cert.Post_within.Facts.slices_S65536x256_S65536x128_0_128 (ix2 a j) = x (ix2 a ⟨128 + j.val, by omega⟩) := fun a j => by
    refine extractStridedSlice_apply _ _ _ _ _ fun d => ?_
    fin_cases d <;> simp
  have last : ∀ (a : Fin 65536) (j : Fin 128), extractStridedSlice Cert.Post_within.S65536x128 ![0, 256] (out x)
      Cert.Post_within.Facts.slices_S65536x384_S65536x128_0_256 (ix2 a j) = x (ix2 a ⟨128 + j.val, by omega⟩) := fun a j => by
    rw [← out_copied x a j ⟨256 + j.val, by omega⟩ rfl]
    refine extractStridedSlice_apply _ _ _ _ _ fun d => ?_
    fin_cases d <;> simp
  have even : ∀ (a : Fin 65536) (j : Fin 128), Host.slice Cert.Post_within.S65536x128 ![0, 0] ![1, 2] (out x)
      Cert.Post_within.Facts.slicesBy_S65536x384_S65536x128_0s1_0s2 (ix2 a j)
        = fast (x (ix2 a ⟨j.val, by omega⟩) + Ideal.ofBits .f32 0x40490FDB#32) := fun a j => by
    rw [← out_even x a j ⟨2 * j.val, by omega⟩ rfl]
    refine congrArg (out x) (funext fun d => Fin.ext ?_)
    fin_cases d <;> simp
  have odd : ∀ (a : Fin 65536) (j : Fin 128), Host.slice Cert.Post_within.S65536x128 ![0, 1] ![1, 2] (out x)
      Cert.Post_within.Facts.slicesBy_S65536x384_S65536x128_0s1_1s2 (ix2 a j)
        = fast (x (ix2 a ⟨j.val, by omega⟩) + Ideal.ofBits .f32 0x3FC90FDB#32) := fun a j => by
    rw [← out_odd x a j ⟨2 * j.val + 1, by omega⟩ rfl]
    refine congrArg (out x) (funext fun d => Fin.ext ?_)
    fin_cases d <;> simp [Nat.add_comm]
  have read : ∀ i : Cert.Post_within.S65536x128.Idx, ∃ (a : Fin 65536) (j : Fin 128), i = ix2 a j := fun i =>
    ⟨i 0, i 1, funext fun d => by fin_cases d <;> rfl⟩
  unfold Cert.Post_within.fn Cert.Post_within.fn_part1
  refine laid_ones _ _ _ (fun i => ?_) (fun i => ?_) fun i => ?_ <;> obtain ⟨a, j, rfl⟩ := read i
  · have e := bit_even (x (ix2 a ⟨j.val, by omega⟩))
    rw [← even a j, ← first a j] at e
    exact e
  · have e := bit_odd (x (ix2 a ⟨j.val, by omega⟩))
    rw [← odd a j, ← first a j] at e
    exact e
  · show Ideal.cmp .oeq _ _ = 1#1
    beta_reduce
    rw [last, second]
    simp [Ideal.cmp]

end Within

/-- The third version's result array satisfies the predicate, of every argument array. -/
theorem fast_within : Cert.holds_KernelIdeal_within := by
  intro m ρ _
  refine (θ_run Cert.KernelIdeal.defs _ _).mono (fun _ h c => ⟨(h c).2, ?_⟩) (Cert.KernelIdeal.Blocks.run m ρ)
  rw [(h c).1]
  exact Within.post _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelCos
public import proofs.«01_k».proof.Proof.Gen.KernelCos.Skeleton
public import proofs.«01_k».proof.Proof.Gen.KernelCos.Launch
public import proofs.«01_k».proof.Proof.Gen.KernelCos.Points
public import proofs.«01_k».proof.Proof.Gen.KernelCos.Frame
public import proofs.«01_k».proof.Proof.Gen.KernelCosIdeal
public import proofs.«01_k».proof.Proof.Gen.KernelCosIdeal.Value
public import proofs.«01_k».proof.Proof.Gen.KernelCosIdeal.Skeleton
public import proofs.«01_k».proof.Proof.Gen.KernelCosIdeal.Launch
public import proofs.«01_k».proof.Proof.Gen.KernelCosIdeal.Points
public import proofs.«01_k».proof.Proof.Gen.KernelCosIdeal.Frame
public import proofs.«01_k».proof.Proof.Gen.ReferenceIdeal
public import proofs.«01_k».proof.Proof.Gen.ReferenceIdeal.Run
public import proofs.«01_k».proof.Proof.Gen.On_copied
public import proofs.«01_k».proof.Proof.Claims
public import proofs.«01_k».proof.Proof.Within
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The certificate's claims, in order. -/
theorem claim : Cert.Claim := ⟨Cert.Kernel.Gen.facts, Cert.KernelIdeal.Gen.facts, Cert.KernelCos.Gen.facts,
  Cert.KernelCosIdeal.Gen.facts, Cert.ReferenceIdeal.Gen.facts, Cert.Proof.Within.facts, Cert.On_copied.Gen.facts,
    -- the frames
    fun m ρ _ => Cert.Kernel.Gen.frame m ρ,
    fun m ρ _ => Cert.KernelIdeal.Gen.frame m ρ,
    fun m ρ _ => Cert.KernelCos.Gen.frame m ρ,
    fun m ρ _ => Cert.KernelCosIdeal.Gen.frame m ρ,
    fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ),
    -- what the idealizations keep, and the values
    trivial,
    Cert.Proof.fast_within,
    ⟨IdealRules.named_const.statement Cert.KernelCosIdeal.κ "pi" .f32 0x40490FDB#32 _ rfl,
      IdealRules.named_const.statement Cert.KernelCosIdeal.κ "half_pi" .f32 0x3FC90FDB#32 _ rfl⟩,
    Cert.Proof.cos_algebraic,
    Cert.Proof.fast_algebraic_on_copied⟩

end Cert.Proof

end
